-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_nonneg [hPre_x_nonneg : Cert.Pre_x_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_x_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_nonneg [hPre_x_nonneg : Cert.Pre_x_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_x_nonneg [hKernelIdeal : Cert.KernelIdeal.Facts] [hPre_x_nonneg : Cert.Pre_x_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_x_nonneg [hReferenceIdeal : Cert.ReferenceIdeal.Facts] [hPre_x_nonneg : Cert.Pre_x_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_x_nonneg [hKernelIdeal : Cert.KernelIdeal.Facts] [hReferenceIdeal : Cert.ReferenceIdeal.Facts] [hPre_x_nonneg : Cert.Pre_x_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_x_nonneg : Cert.Pre_x_nonneg.Facts),
    quiescent_Kernel (hKernel := hKernel)
    ∧ quiescent_KernelIdeal (hKernelIdeal := hKernelIdeal)
    ∧ quiescent_KernelIdeal_pre_x_nonneg (hKernelIdeal := hKernelIdeal) (hPre_x_nonneg := hPre_x_nonneg)
    ∧ quiescent_ReferenceIdeal (hReferenceIdeal := hReferenceIdeal)
    ∧ quiescent_ReferenceIdeal_pre_x_nonneg (hReferenceIdeal := hReferenceIdeal) (hPre_x_nonneg := hPre_x_nonneg)
    ∧ preserves_Kernel_KernelIdeal
    ∧ algebraic_KernelIdeal_ReferenceIdeal_pre_x_nonneg (hKernelIdeal := hKernelIdeal) (hReferenceIdeal := hReferenceIdeal) (hPre_x_nonneg := hPre_x_nonneg)
-- ==== Pre_x_nonneg.lean ====
abbrev S4x96x384x384 : Shape := ⟨4, ![4, 96, 384, 384]⟩
abbrev S_ : Shape := ⟨0, ![]⟩

class Facts : Prop where
  bcast_S_S4x96x384x384 : S_.BroadcastsInDim S4x96x384x384 (![] : Fin 0 → Fin S4x96x384x384.rank)
  reducesTo_S4x96x384x384_S_d0_1_2_3 : S4x96x384x384.ReducesTo [0, 1, 2, 3] S_
  h_S_ : 0 < S_.numel

variable [Facts]

def fn {F : FTy → Type} [FloatOps F] (main_arg0 : FVec F S4x96x384x384 .f32) : IVec S_ 1 :=
  let main_cst : FVec F S_ .f32 := constant S_ .f32 0x00000000#32
  let main_v0 : FVec F S4x96x384x384 .f32 := broadcastInDim S4x96x384x384 ![] bcast_S_S4x96x384x384 main_cst
  let main_v1 : IVec S4x96x384x384 1 := cmpf .oge main_arg0 main_v0
  let main_c : IVec S_ 1 := constantI S_ 1 1#1
  let main_v2 : IVec S_ 1 := (fun x v => Host.reduce IntOp.andi x v reducesTo_S4x96x384x384_S_d0_1_2_3 h_S_) main_v1 main_c
  main_v2
-- ==== Kernel.lean ====
abbrev S4x96x384x384 : Shape := ⟨4, ![4, 96, 384, 384]⟩
abbrev S384x384x384 : Shape := ⟨3, ![384, 384, 384]⟩
abbrev S8x384x384 : Shape := ⟨3, ![8, 384, 384]⟩
abbrev S_ : Shape := ⟨0, ![]⟩
abbrev S384x192x192 : Shape := ⟨3, ![384, 192, 192]⟩
abbrev S8x192x192 : Shape := ⟨3, ![8, 192, 192]⟩
abbrev S384x192 : Shape := ⟨2, ![384, 192]⟩
abbrev S192x384 : Shape := ⟨2, ![192, 384]⟩
abbrev S1x384x384 : Shape := ⟨3, ![1, 384, 384]⟩
abbrev S384x384 : Shape := ⟨2, ![384, 384]⟩
abbrev S192x192 : Shape := ⟨2, ![192, 192]⟩
abbrev S1x192x192 : Shape := ⟨3, ![1, 192, 192]⟩
abbrev S88x192x192 : Shape := ⟨3, ![88, 192, 192]⟩
abbrev S96x384 : Shape := ⟨2, ![96, 384]⟩
abbrev S48x192 : Shape := ⟨2, ![48, 192]⟩
abbrev S16 : Shape := ⟨1, ![16]⟩
abbrev S1x96x384 : Shape := ⟨3, ![1, 96, 384]⟩
abbrev S1x16 : Shape := ⟨2, ![1, 16]⟩
abbrev S1x48x192 : Shape := ⟨3, ![1, 48, 192]⟩
abbrev S4x96x192x192 : Shape := ⟨4, ![4, 96, 192, 192]⟩

abbrev nBuf : Table → Nat
  | .hbm => 37
  | .local .tc .vmem => 5
  | .local .scVector .vmem => 3
  | _ => 0

abbrev bufTy : (tb : Table) → Fin (nBuf tb) → BufTy
  | .hbm, ⟨0, _⟩ => ⟨S4x96x384x384, .f32⟩
  | .hbm, ⟨1, _⟩ => ⟨S384x384x384, .f32⟩
  | .hbm, ⟨2, _⟩ => ⟨S8x384x384, .i32⟩
  | .hbm, ⟨3, _⟩ => ⟨S8x384x384, .i32⟩
  | .hbm, ⟨4, _⟩ => ⟨S8x384x384, .i32⟩
  | .hbm, ⟨5, _⟩ => ⟨S_, .i32⟩
  | .hbm, ⟨6, _⟩ => ⟨S8x384x384, .i32⟩
  | .hbm, ⟨7, _⟩ => ⟨S8x384x384, .i32⟩
  | .hbm, ⟨8, _⟩ => ⟨S_, .i32⟩
  | .hbm, ⟨9, _⟩ => ⟨S8x384x384, .i32⟩
  | .hbm, ⟨10, _⟩ => ⟨S8x384x384, .i32⟩
  | .hbm, ⟨11, _⟩ => ⟨S8x384x384, .i32⟩
  | .hbm, ⟨12, _⟩ => ⟨S_, .i32⟩
  | .hbm, ⟨13, _⟩ => ⟨S8x384x384, .i32⟩
  | .hbm, ⟨14, _⟩ => ⟨S8x384x384, .i32⟩
  | .hbm, ⟨15, _⟩ => ⟨S_, .i32⟩
  | .hbm, ⟨16, _⟩ => ⟨S8x384x384, .i32⟩
  | .hbm, ⟨17, _⟩ => ⟨S8x384x384, .i32⟩
  | .hbm, ⟨18, _⟩ => ⟨S8x384x384, .i32⟩
  | .hbm, ⟨19, _⟩ => ⟨S_, .i32⟩
  | .hbm, ⟨20, _⟩ => ⟨S8x384x384, .i32⟩
  | .hbm, ⟨21, _⟩ => ⟨S8x384x384, .i32⟩
  | .hbm, ⟨22, _⟩ => ⟨S8x384x384, .i32⟩
  | .hbm, ⟨23, _⟩ => ⟨S_, .i32⟩
  | .hbm, ⟨24, _⟩ => ⟨S8x384x384, .i32⟩
  | .hbm, ⟨25, _⟩ => ⟨S8x384x384, .i32⟩
  | .hbm, ⟨26, _⟩ => ⟨S8x384x384, .i32⟩
  | .hbm, ⟨27, _⟩ => ⟨S_, .i32⟩
  | .hbm, ⟨28, _⟩ => ⟨S8x384x384, .i32⟩
  | .hbm, ⟨29, _⟩ => ⟨S8x384x384, .i32⟩
  | .hbm, ⟨30, _⟩ => ⟨S384x192x192, .f32⟩
  | .hbm, ⟨31, _⟩ => ⟨S88x192x192, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S384x192x192, .f32⟩
  | .hbm, ⟨36, _⟩ => ⟨S4x96x192x192, .f32⟩
  | .local .tc .vmem, ⟨0, _⟩ => ⟨S8x384x384, .f32⟩
  | .local .tc .vmem, ⟨1, _⟩ => ⟨S8x384x384, .f32⟩
  | .local .tc .vmem, ⟨2, _⟩ => ⟨S8x384x384, .i32⟩
  | .local .tc .vmem, ⟨3, _⟩ => ⟨S8x192x192, .f32⟩
  | .local .tc .vmem, ⟨4, _⟩ => ⟨S8x192x192, .f32⟩
  | .local .scVector .vmem, ⟨0, _⟩ => ⟨S96x384, .f32⟩
  | .local .scVector .vmem, ⟨1, _⟩ => ⟨S96x384, .f32⟩
  | .local .scVector .vmem, ⟨2, _⟩ => ⟨S48x192, .f32⟩
  | _, _ => ⟨S4x96x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_6 : Ref sig .tc := ⟨.hbm, 32, rfl⟩
abbrev main_c_7 : Ref sig .tc := ⟨.hbm, 33, rfl⟩
abbrev main_c_8 : Ref sig .tc := ⟨.hbm, 34, rfl⟩
abbrev main_v24 : Ref sig .tc := ⟨.hbm, 35, rfl⟩
abbrev main_v25 : Ref sig .tc := ⟨.hbm, 36, rfl⟩
abbrev main_v0_scv : Ref sig .scVector := ⟨.hbm, 1, rfl⟩
abbrev main_v23_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![37], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let c296_i32 : BitVec 32 := 296#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c10_i32 : BitVec 32 := 10#32
  let v3 : BitVec 32 := Scalar.addi v2 c10_i32
  let v5 : BitVec 32 := Scalar.minsi v2 v3
  let c2_i32_0 : BitVec 32 := 2#32
  let v6 : BitVec 32 := Scalar.shrui v5 c2_i32_0
  let v8 : BitVec 32 := Scalar.addi c296_i32 v6
  let c3_i32 : BitVec 32 := 3#32
  let v7 : BitVec 32 := Scalar.andi v5 c3_i32
  let c96_i32 : BitVec 32 := 96#32
  let v9 : BitVec 32 := Scalar.muli v7 c96_i32
  let c0_i32 : BitVec 32 := 0#32
  ![v8.toNat, v9.toNat, 0]
def k1_off2 (i : grid1.Coords) (c1_i32 : BitVec 32) : Fin 3 → Nat :=
  let c296_i32_4 : BitVec 32 := 296#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let v14 : BitVec 32 := Scalar.addi v2 c1_i32
  let c10_i32 : BitVec 32 := 10#32
  let v3 : BitVec 32 := Scalar.addi v2 c10_i32
  let v15 : BitVec 32 := Scalar.minsi v14 v3
  let c2_i32_2 : BitVec 32 := 2#32
  let v16 : BitVec 32 := Scalar.shrui v15 c2_i32_2
  let v18 : BitVec 32 := Scalar.addi c296_i32_4 v16
  let c3_i32_3 : BitVec 32 := 3#32
  let v17 : BitVec 32 := Scalar.andi v15 c3_i32_3
  let c96_i32_5 : BitVec 32 := 96#32
  let v19 : BitVec 32 := Scalar.muli v17 c96_i32_5
  let c0_i32_6 : BitVec 32 := 0#32
  ![v18.toNat, v19.toNat, 0]
@[reducible] def k1_t1_loop : Scf.Loop 32 :=
  let c0_i32_9 : BitVec 32 := 0#32
  let c5_i32 : BitVec 32 := 5#32
  let v24 : BitVec 32 := Scalar.addi c0_i32_9 c5_i32
  let c1_i32_10 : BitVec 32 := 1#32
  ⟨c0_i32_9, v24, c1_i32_10⟩
def k1_off3 (i : grid1.Coords) (k1_t1 : Fin k1_t1_loop.trips) : Fin 3 → Nat :=
  let c296_i32_35 : BitVec 32 := 296#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c0_i32_9 : BitVec 32 := 0#32
  let c1_i32_10 : BitVec 32 := 1#32
  let arg9 : BitVec 32 := Scf.iv c0_i32_9 c1_i32_10 k1_t1
  let c2_i32_32 : BitVec 32 := 2#32
  let v48 : BitVec 32 := Scalar.muli arg9 c2_i32_32
  let v49 : BitVec 32 := Scalar.addi v2 v48
  let c10_i32 : BitVec 32 := 10#32
  let v3 : BitVec 32 := Scalar.addi v2 c10_i32
  let v50 : BitVec 32 := Scalar.minsi v49 v3
  let c2_i32_33 : BitVec 32 := 2#32
  let v51 : BitVec 32 := Scalar.shrui v50 c2_i32_33
  let v53 : BitVec 32 := Scalar.addi c296_i32_35 v51
  let c3_i32_34 : BitVec 32 := 3#32
  let v52 : BitVec 32 := Scalar.andi v50 c3_i32_34
  let c96_i32_36 : BitVec 32 := 96#32
  let v54 : BitVec 32 := Scalar.muli v52 c96_i32_36
  let c0_i32_37 : BitVec 32 := 0#32
  ![v53.toNat, v54.toNat, 0]
@[reducible] def k1_t2_loop : Scf.Loop 32 :=
  let c0_i32_42 : BitVec 32 := 0#32
  let c48_i32_43 : BitVec 32 := 48#32
  let v61 : BitVec 32 := Scalar.addi c0_i32_42 c48_i32_43
  let c1_i32_44 : BitVec 32 := 1#32
  ⟨c0_i32_42, v61, c1_i32_44⟩
@[reducible] def k1_t3_loop : Scf.Loop 32 :=
  let c0_i32_81 : BitVec 32 := 0#32
  let c12_i32 : BitVec 32 := 12#32
  let v109 : BitVec 32 := Scalar.addi c0_i32_81 c12_i32
  let c1_i32_82 : BitVec 32 := 1#32
  ⟨c0_i32_81, v109, c1_i32_82⟩

def k1_chk1 (v99 : IVec S16 32) (v101 : IVec S16 32) (v114 : IVec S16 32) : Prop :=
  (∀ a x, ((![v99, v114] : Fin 2 → IVec S16 32) a x).toNat < S96x384.size a) ∧
  (∀ a x, ((![v101, v114] : Fin 2 → IVec S16 32) a x).toNat < S96x384.size a)
theorem k1_idx1_inb : ∀ (v99 : IVec S16 32) (v101 : IVec S16 32) (v114 : IVec S16 32) (k1_hw1 : k1_chk1 v99 v101 v114), ∀ a x, ((![v99, v114] : Fin 2 → IVec S16 32) a x).toNat < S96x384.size a := fun v99 v101 v114 k1_hw1 => k1_hw1.1
theorem k1_idx3_inb : ∀ (v99 : IVec S16 32) (v101 : IVec S16 32) (v114 : IVec S16 32) (k1_hw1 : k1_chk1 v99 v101 v114), ∀ a x, ((![v101, v114] : Fin 2 → IVec S16 32) a x).toNat < S96x384.size a := fun v99 v101 v114 k1_hw1 => k1_hw1.2

def k1_chk2 (v99 : IVec S16 32) (v101 : IVec S16 32) (v116 : IVec S16 32) : Prop :=
  (∀ a x, ((![v99, v116] : Fin 2 → IVec S16 32) a x).toNat < S96x384.size a) ∧
  (∀ a x, ((![v101, v116] : Fin 2 → IVec S16 32) a x).toNat < S96x384.size a)
theorem k1_idx2_inb : ∀ (v99 : IVec S16 32) (v101 : IVec S16 32) (v116 : IVec S16 32) (k1_hw2 : k1_chk2 v99 v101 v116), ∀ a x, ((![v99, v116] : Fin 2 → IVec S16 32) a x).toNat < S96x384.size a := fun v99 v101 v116 k1_hw2 => k1_hw2.1
theorem k1_idx4_inb : ∀ (v99 : IVec S16 32) (v101 : IVec S16 32) (v116 : IVec S16 32) (k1_hw2 : k1_chk2 v99 v101 v116), ∀ a x, ((![v101, v116] : Fin 2 → IVec S16 32) a x).toNat < S96x384.size a := fun v99 v101 v116 k1_hw2 => k1_hw2.2
def k1_off4 (k1_t2 : Fin k1_t2_loop.trips) (k1_t3 : Fin k1_t3_loop.trips) : Fin 2 → Nat :=
  let c0_i32_42 : BitVec 32 := 0#32
  let c1_i32_44 : BitVec 32 := 1#32
  let arg10 : BitVec 32 := Scf.iv c0_i32_42 c1_i32_44 k1_t2
  let v878 : Index := Scalar.indexCast arg10
  let c0_i32_81 : BitVec 32 := 0#32
  let c1_i32_82 : BitVec 32 := 1#32
  let arg11 : BitVec 32 := Scf.iv c0_i32_81 c1_i32_82 k1_t3
  let c16_i32_319 : BitVec 32 := 16#32
  let v877 : BitVec 32 := Scalar.muli arg11 c16_i32_319
  let v879 : Index := Scalar.indexCast v877
  ![v878.toNat, v879.toNat]
def k1_off5 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c0_i32_9 : BitVec 32 := 0#32
  let c1_i32_10 : BitVec 32 := 1#32
  let arg9 : BitVec 32 := Scf.iv c0_i32_9 c1_i32_10 k1_t1
  let c2_i32_32 : BitVec 32 := 2#32
  let v48 : BitVec 32 := Scalar.muli arg9 c2_i32_32
  let v49 : BitVec 32 := Scalar.addi v2 v48
  let c2_i32_39 : BitVec 32 := 2#32
  let v59 : BitVec 32 := Scalar.shrui v49 c2_i32_39
  let c3_i32_40 : BitVec 32 := 3#32
  let v60 : BitVec 32 := Scalar.andi v49 c3_i32_40
  let c48_i32_46 : BitVec 32 := 48#32
  let v62 : BitVec 32 := Scalar.muli v60 c48_i32_46
  let c0_i32_77_r0 : BitVec 32 := 0#32
  ![v59.toNat, v62.toNat, 0]
def k1_off6 (i : grid1.Coords) (k1_t1 : Fin k1_t1_loop.trips) (c2_i32_47 : BitVec 32) : Fin 3 → Nat :=
  let c296_i32_50 : BitVec 32 := 296#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c0_i32_9 : BitVec 32 := 0#32
  let c1_i32_10 : BitVec 32 := 1#32
  let arg9 : BitVec 32 := Scf.iv c0_i32_9 c1_i32_10 k1_t1
  let c2_i32_32 : BitVec 32 := 2#32
  let v48 : BitVec 32 := Scalar.muli arg9 c2_i32_32
  let v49 : BitVec 32 := Scalar.addi v2 v48
  let v63 : BitVec 32 := Scalar.addi v49 c2_i32_47
  let c10_i32 : BitVec 32 := 10#32
  let v3 : BitVec 32 := Scalar.addi v2 c10_i32
  let v64 : BitVec 32 := Scalar.minsi v63 v3
  let c2_i32_48 : BitVec 32 := 2#32
  let v65 : BitVec 32 := Scalar.shrui v64 c2_i32_48
  let v67 : BitVec 32 := Scalar.addi c296_i32_50 v65
  let c3_i32_49 : BitVec 32 := 3#32
  let v66 : BitVec 32 := Scalar.andi v64 c3_i32_49
  let c96_i32_51 : BitVec 32 := 96#32
  let v68 : BitVec 32 := Scalar.muli v66 c96_i32_51
  let c0_i32_52 : BitVec 32 := 0#32
  ![v67.toNat, v68.toNat, 0]
@[reducible] def k1_t4_loop : Scf.Loop 32 :=
  let c0_i32_65 : BitVec 32 := 0#32
  let c48_i32_66 : BitVec 32 := 48#32
  let v86 : BitVec 32 := Scalar.addi c0_i32_65 c48_i32_66
  let c1_i32_67 : BitVec 32 := 1#32
  ⟨c0_i32_65, v86, c1_i32_67⟩
@[reducible] def k1_t5_loop : Scf.Loop 32 :=
  let c0_i32_81 : BitVec 32 := 0#32
  let c12_i32 : BitVec 32 := 12#32
  let v109 : BitVec 32 := Scalar.addi c0_i32_81 c12_i32
  let c1_i32_82 : BitVec 32 := 1#32
  ⟨c0_i32_81, v109, c1_i32_82⟩

def k1_chk3 (v99 : IVec S16 32) (v101 : IVec S16 32) (v114 : IVec S16 32) : Prop :=
  (∀ a x, ((![v99, v114] : Fin 2 → IVec S16 32) a x).toNat < S96x384.size a) ∧
  (∀ a x, ((![v101, v114] : Fin 2 → IVec S16 32) a x).toNat < S96x384.size a)
theorem k1_idx5_inb : ∀ (v99 : IVec S16 32) (v101 : IVec S16 32) (v114 : IVec S16 32) (k1_hw3 : k1_chk3 v99 v101 v114), ∀ a x, ((![v99, v114] : Fin 2 → IVec S16 32) a x).toNat < S96x384.size a := fun v99 v101 v114 k1_hw3 => k1_hw3.1
theorem k1_idx7_inb : ∀ (v99 : IVec S16 32) (v101 : IVec S16 32) (v114 : IVec S16 32) (k1_hw3 : k1_chk3 v99 v101 v114), ∀ a x, ((![v101, v114] : Fin 2 → IVec S16 32) a x).toNat < S96x384.size a := fun v99 v101 v114 k1_hw3 => k1_hw3.2

def k1_chk4 (v99 : IVec S16 32) (v101 : IVec S16 32) (v116 : IVec S16 32) : Prop :=
  (∀ a x, ((![v99, v116] : Fin 2 → IVec S16 32) a x).toNat < S96x384.size a) ∧
  (∀ a x, ((![v101, v116] : Fin 2 → IVec S16 32) a x).toNat < S96x384.size a)
theorem k1_idx6_inb : ∀ (v99 : IVec S16 32) (v101 : IVec S16 32) (v116 : IVec S16 32) (k1_hw4 : k1_chk4 v99 v101 v116), ∀ a x, ((![v99, v116] : Fin 2 → IVec S16 32) a x).toNat < S96x384.size a := fun v99 v101 v116 k1_hw4 => k1_hw4.1
theorem k1_idx8_inb : ∀ (v99 : IVec S16 32) (v101 : IVec S16 32) (v116 : IVec S16 32) (k1_hw4 : k1_chk4 v99 v101 v116), ∀ a x, ((![v101, v116] : Fin 2 → IVec S16 32) a x).toNat < S96x384.size a := fun v99 v101 v116 k1_hw4 => k1_hw4.2
def k1_off7 (k1_t4 : Fin k1_t4_loop.trips) (k1_t5 : Fin k1_t5_loop.trips) : Fin 2 → Nat :=
  let c0_i32_65 : BitVec 32 := 0#32
  let c1_i32_67 : BitVec 32 := 1#32
  let arg10 : BitVec 32 := Scf.iv c0_i32_65 c1_i32_67 k1_t4
  let v878 : Index := Scalar.indexCast arg10
  let c0_i32_81 : BitVec 32 := 0#32
  let c1_i32_82 : BitVec 32 := 1#32
  let arg11 : BitVec 32 := Scf.iv c0_i32_81 c1_i32_82 k1_t5
  let c16_i32_319 : BitVec 32 := 16#32
  let v877 : BitVec 32 := Scalar.muli arg11 c16_i32_319
  let v879 : Index := Scalar.indexCast v877
  ![v878.toNat, v879.toNat]
def k1_off8 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c0_i32_9 : BitVec 32 := 0#32
  let c1_i32_10 : BitVec 32 := 1#32
  let arg9 : BitVec 32 := Scf.iv c0_i32_9 c1_i32_10 k1_t1
  let c2_i32_32 : BitVec 32 := 2#32
  let v48 : BitVec 32 := Scalar.muli arg9 c2_i32_32
  let v49 : BitVec 32 := Scalar.addi v2 v48
  let c1_i32_61 : BitVec 32 := 1#32
  let v83 : BitVec 32 := Scalar.addi v49 c1_i32_61
  let c2_i32_62 : BitVec 32 := 2#32
  let v84 : BitVec 32 := Scalar.shrui v83 c2_i32_62
  let c3_i32_63 : BitVec 32 := 3#32
  let v85 : BitVec 32 := Scalar.andi v83 c3_i32_63
  let c48_i32_69 : BitVec 32 := 48#32
  let v87 : BitVec 32 := Scalar.muli v85 c48_i32_69
  let c0_i32_77_r1 : BitVec 32 := 0#32
  ![v84.toNat, v87.toNat, 0]
@[reducible] def k1_t6_loop : Scf.Loop 32 :=
  let c0_i32_22 : BitVec 32 := 0#32
  let c48_i32 : BitVec 32 := 48#32
  let v37 : BitVec 32 := Scalar.addi c0_i32_22 c48_i32
  let c1_i32_23 : BitVec 32 := 1#32
  ⟨c0_i32_22, v37, c1_i32_23⟩
@[reducible] def k1_t7_loop : Scf.Loop 32 :=
  let c0_i32_36 : BitVec 32 := 0#32
  let c12_i32 : BitVec 32 := 12#32
  let v59 : BitVec 32 := Scalar.addi c0_i32_36 c12_i32
  let c1_i32_37 : BitVec 32 := 1#32
  ⟨c0_i32_36, v59, c1_i32_37⟩

def k1_chk5 (v49 : IVec S16 32) (v51 : IVec S16 32) (v64 : IVec S16 32) : Prop :=
  (∀ a x, ((![v49, v64] : Fin 2 → IVec S16 32) a x).toNat < S96x384.size a) ∧
  (∀ a x, ((![v51, v64] : Fin 2 → IVec S16 32) a x).toNat < S96x384.size a)
theorem k1_idx9_inb : ∀ (v49 : IVec S16 32) (v51 : IVec S16 32) (v64 : IVec S16 32) (k1_hw5 : k1_chk5 v49 v51 v64), ∀ a x, ((![v49, v64] : Fin 2 → IVec S16 32) a x).toNat < S96x384.size a := fun v49 v51 v64 k1_hw5 => k1_hw5.1
theorem k1_idx11_inb : ∀ (v49 : IVec S16 32) (v51 : IVec S16 32) (v64 : IVec S16 32) (k1_hw5 : k1_chk5 v49 v51 v64), ∀ a x, ((![v51, v64] : Fin 2 → IVec S16 32) a x).toNat < S96x384.size a := fun v49 v51 v64 k1_hw5 => k1_hw5.2

def k1_chk6 (v49 : IVec S16 32) (v51 : IVec S16 32) (v66 : IVec S16 32) : Prop :=
  (∀ a x, ((![v49, v66] : Fin 2 → IVec S16 32) a x).toNat < S96x384.size a) ∧
  (∀ a x, ((![v51, v66] : Fin 2 → IVec S16 32) a x).toNat < S96x384.size a)
theorem k1_idx10_inb : ∀ (v49 : IVec S16 32) (v51 : IVec S16 32) (v66 : IVec S16 32) (k1_hw6 : k1_chk6 v49 v51 v66), ∀ a x, ((![v49, v66] : Fin 2 → IVec S16 32) a x).toNat < S96x384.size a := fun v49 v51 v66 k1_hw6 => k1_hw6.1
theorem k1_idx12_inb : ∀ (v49 : IVec S16 32) (v51 : IVec S16 32) (v66 : IVec S16 32) (k1_hw6 : k1_chk6 v49 v51 v66), ∀ a x, ((![v51, v66] : Fin 2 → IVec S16 32) a x).toNat < S96x384.size a := fun v49 v51 v66 k1_hw6 => k1_hw6.2
def k1_off9 (k1_t6 : Fin k1_t6_loop.trips) (k1_t7 : Fin k1_t7_loop.trips) : Fin 2 → Nat :=
  let c0_i32_22 : BitVec 32 := 0#32
  let c1_i32_23 : BitVec 32 := 1#32
  let arg9 : BitVec 32 := Scf.iv c0_i32_22 c1_i32_23 k1_t6
  let v828 : Index := Scalar.indexCast arg9
  let c0_i32_36 : BitVec 32 := 0#32
  let c1_i32_37 : BitVec 32 := 1#32
  let arg10 : BitVec 32 := Scf.iv c0_i32_36 c1_i32_37 k1_t7
  let c16_i32_274 : BitVec 32 := 16#32
  let v827 : BitVec 32 := Scalar.muli arg10 c16_i32_274
  let v829 : Index := Scalar.indexCast v827
  ![v828.toNat, v829.toNat]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 32 := Scalar.muli v1 c11_i32
  let c10_i32_12 : BitVec 32 := 10#32
  let v25 : BitVec 32 := Scalar.addi v2 c10_i32_12
  let c2_i32_19 : BitVec 32 := 2#32
  let v35 : BitVec 32 := Scalar.shrui v25 c2_i32_19
  let c3_i32_20 : BitVec 32 := 3#32
  let v36 : BitVec 32 := Scalar.andi v25 c3_i32_20
  let c48_i32_25 : BitVec 32 := 48#32
  let v38 : BitVec 32 := Scalar.muli v36 c48_i32_25
  let c0_i32_32_r2 : BitVec 32 := 0#32
  ![v35.toNat, v38.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x96x192x2x192x2 : Shape := ⟨6, ![4, 96, 192, 2, 192, 2]⟩
abbrev S4x96x192x192x2x2 : Shape := ⟨6, ![4, 96, 192, 192, 2, 2]⟩
abbrev S4x96x192x192x4 : Shape := ⟨5, ![4, 96, 192, 192, 4]⟩
abbrev S_ : Shape := ⟨0, ![]⟩
abbrev S1 : Shape := ⟨1, ![1]⟩
abbrev S2 : Shape := ⟨1, ![2]⟩
abbrev S4x96x192x192 : Shape := ⟨4, ![4, 96, 192, 192]⟩

abbrev nBuf : Space → Nat
  | .hbm => 295
  | .vmem => 0
  | .smem => 0
  | _ => 0

abbrev hbmTy0_0 (i : Nat) : BufTy := match i % 128 with
  | 0 => ⟨S4x96x384x384, .f32⟩
  | 1 => ⟨S4x96x192x2x192x2, .f32⟩
  | 2 => ⟨S4x96x192x192x2x2, .f32⟩
  | 3 => ⟨S4x96x192x192x4, .f32⟩
  | 4 => ⟨S4x96x192x192x4, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1, .i32⟩
  | 16 => ⟨S_, .i32⟩
  | 17 => ⟨S1, .i32⟩
  | 18 => ⟨S_, .i32⟩
  | 19 => ⟨S4x96x192x192x4, .i64⟩
  | 20 => ⟨S4x96x192x192x4, .i64⟩
  | 21 => ⟨S4x96x192x192x4, .i64⟩
  | 22 => ⟨S4x96x192x192x4, .i64⟩
  | 23 => ⟨S4x96x192x192x4, .i64⟩
  | 24 => ⟨S_, .i64⟩
  | 25 => ⟨S4x96x192x192x4, .i64⟩
  | 26 => ⟨S4x96x192x192x4, .i64⟩
  | 27 => ⟨S_, .i64⟩
  | 28 => ⟨S4x96x192x192x4, .i64⟩
  | 29 => ⟨S4x96x192x192x4, .i64⟩
  | 30 => ⟨S_, .i64⟩
  | 31 => ⟨S4x96x192x192x4, .i64⟩
  | 32 => ⟨S4x96x192x192x4, .i64⟩
  | 33 => ⟨S_, .i64⟩
  | 34 => ⟨S4x96x192x192x4, .i64⟩
  | 35 => ⟨S4x96x192x192x4, .i64⟩
  | 36 => ⟨S_, .i64⟩
  | 37 => ⟨S4x96x192x192x4, .i64⟩
  | 38 => ⟨S4x96x192x192x4, .i64⟩
  | 39 => ⟨S4x96x192x192x4, .i64⟩
  | 40 => ⟨S4x96x192x192x4, .i64⟩
  | 41 => ⟨S4x96x192x192x4, .i64⟩
  | 42 => ⟨S4x96x192x192x4, .i64⟩
  | 43 => ⟨S_, .i64⟩
  | 44 => ⟨S4x96x192x192x4, .i64⟩
  | 45 => ⟨S4x96x192x192x4, .i64⟩
  | 46 => ⟨S4x96x192x192x4, .i32⟩
  | 47 => ⟨S4x96x192x192x4, .i32⟩
  | 48 => ⟨S_, .i32⟩
  | 49 => ⟨S_, .i32⟩
  | 50 => ⟨S_, .i32⟩
  | 51 => ⟨S4x96x192x192x4, .i32⟩
  | 52 => ⟨S4x96x192x192x4, .i32⟩
  | 53 => ⟨S4x96x192x192x4, .i32⟩
  | 54 => ⟨S4x96x192x192x4, .i32⟩
  | 55 => ⟨S4x96x192x192x4, .i32⟩
  | 56 => ⟨S_, .i32⟩
  | 57 => ⟨S4x96x192x192x4, .i32⟩
  | 58 => ⟨S4x96x192x192x4, .i32⟩
  | 59 => ⟨S_, .i32⟩
  | 60 => ⟨S4x96x192x192x4, .i32⟩
  | 61 => ⟨S4x96x192x192x4, .i32⟩
  | 62 => ⟨S4x96x192x192x4, .i32⟩
  | 63 => ⟨S4x96x192x192x4, .i32⟩
  | 64 => ⟨S4x96x192x192x4, .i32⟩
  | 65 => ⟨S_, .i32⟩
  | 66 => ⟨S4x96x192x192x4, .i32⟩
  | 67 => ⟨S4x96x192x192x4, .i32⟩
  | 68 => ⟨S_, .i32⟩
  | 69 => ⟨S4x96x192x192x4, .i32⟩
  | 70 => ⟨S4x96x192x192x4, .i32⟩
  | 71 => ⟨S4x96x192x192x4, .i32⟩
  | 72 => ⟨S4x96x192x192x4, .i32⟩
  | 73 => ⟨S4x96x192x192x4, .i32⟩
  | 74 => ⟨S_, .i32⟩
  | 75 => ⟨S4x96x192x192x4, .i32⟩
  | 76 => ⟨S4x96x192x192x4, .i32⟩
  | 77 => ⟨S_, .i32⟩
  | 78 => ⟨S4x96x192x192x4, .i32⟩
  | 79 => ⟨S4x96x192x192x4, .i32⟩
  | 80 => ⟨S4x96x192x192x4, .i32⟩
  | 81 => ⟨S4x96x192x192x4, .i32⟩
  | 82 => ⟨S4x96x192x192x4, .i32⟩
  | 83 => ⟨S_, .i32⟩
  | 84 => ⟨S4x96x192x192x4, .i32⟩
  | 85 => ⟨S4x96x192x192x4, .i32⟩
  | 86 => ⟨S_, .i32⟩
  | 87 => ⟨S4x96x192x192x4, .i32⟩
  | 88 => ⟨S4x96x192x192x4, .i32⟩
  | 89 => ⟨S4x96x192x192x4, .i32⟩
  | 90 => ⟨S4x96x192x192x4, .i32⟩
  | 91 => ⟨S4x96x192x192x4, .i32⟩
  | 92 => ⟨S4x96x192x192x4, .i32⟩
  | 93 => ⟨S4x96x192x192x4, .i32⟩
  | 94 => ⟨S4x96x192x192x4, .i32⟩
  | 95 => ⟨S_, .i32⟩
  | 96 => ⟨S4x96x192x192x4, .i32⟩
  | 97 => ⟨S4x96x192x192x4, .i32⟩
  | 98 => ⟨S4x96x192x192x4, .i32⟩
  | 99 => ⟨S_, .i32⟩
  | 100 => ⟨S4x96x192x192x4, .i32⟩
  | 101 => ⟨S4x96x192x192x4, .i32⟩
  | 102 => ⟨S_, .i32⟩
  | 103 => ⟨S4x96x192x192x4, .i32⟩
  | 104 => ⟨S4x96x192x192x4, .i32⟩
  | 105 => ⟨S4x96x192x192x4, .i32⟩
  | 106 => ⟨S4x96x192x192x4, .i32⟩
  | 107 => ⟨S4x96x192x192x4, .i32⟩
  | 108 => ⟨S_, .i32⟩
  | 109 => ⟨S4x96x192x192x4, .i32⟩
  | 110 => ⟨S4x96x192x192x4, .i32⟩
  | 111 => ⟨S_, .i32⟩
  | 112 => ⟨S4x96x192x192x4, .i32⟩
  | 113 => ⟨S4x96x192x192x4, .i32⟩
  | 114 => ⟨S4x96x192x192x4, .i32⟩
  | 115 => ⟨S4x96x192x192x4, .i32⟩
  | 116 => ⟨S4x96x192x192x4, .i32⟩
  | 117 => ⟨S_, .i32⟩
  | 118 => ⟨S4x96x192x192x4, .i32⟩
  | 119 => ⟨S4x96x192x192x4, .i32⟩
  | 120 => ⟨S_, .i32⟩
  | 121 => ⟨S4x96x192x192x4, .i32⟩
  | 122 => ⟨S4x96x192x192x4, .i32⟩
  | 123 => ⟨S4x96x192x192x4, .i32⟩
  | 124 => ⟨S4x96x192x192x4, .i32⟩
  | 125 => ⟨S4x96x192x192x4, .i32⟩
  | 126 => ⟨S_, .i32⟩
  | 127 => ⟨S4x96x192x192x4, .i32⟩
  | _ => ⟨S4x96x384x384, .f32⟩

abbrev hbmTy0_1 (i : Nat) : BufTy := match i % 128 with
  | 0 => ⟨S4x96x192x192x4, .i32⟩
  | 1 => ⟨S_, .i32⟩
  | 2 => ⟨S4x96x192x192x4, .i32⟩
  | 3 => ⟨S4x96x192x192x4, .i32⟩
  | 4 => ⟨S4x96x192x192x4, .i32⟩
  | 5 => ⟨S4x96x192x192x4, .i32⟩
  | 6 => ⟨S4x96x192x192x4, .i32⟩
  | 7 => ⟨S4x96x192x192x4, .i32⟩
  | 8 => ⟨S4x96x192x192x4, .i32⟩
  | 9 => ⟨S4x96x192x192x4, .i32⟩
  | 10 => ⟨S_, .i32⟩
  | 11 => ⟨S4x96x192x192x4, .i32⟩
  | 12 => ⟨S4x96x192x192x4, .i32⟩
  | 13 => ⟨S4x96x192x192x4, .i32⟩
  | 14 => ⟨S_, .i32⟩
  | 15 => ⟨S4x96x192x192x4, .i32⟩
  | 16 => ⟨S4x96x192x192x4, .i32⟩
  | 17 => ⟨S_, .i32⟩
  | 18 => ⟨S4x96x192x192x4, .i32⟩
  | 19 => ⟨S4x96x192x192x4, .i32⟩
  | 20 => ⟨S4x96x192x192x4, .i32⟩
  | 21 => ⟨S4x96x192x192x4, .i32⟩
  | 22 => ⟨S4x96x192x192x4, .i32⟩
  | 23 => ⟨S_, .i32⟩
  | 24 => ⟨S4x96x192x192x4, .i32⟩
  | 25 => ⟨S4x96x192x192x4, .i32⟩
  | 26 => ⟨S_, .i32⟩
  | 27 => ⟨S4x96x192x192x4, .i32⟩
  | 28 => ⟨S4x96x192x192x4, .i32⟩
  | 29 => ⟨S4x96x192x192x4, .i32⟩
  | 30 => ⟨S4x96x192x192x4, .i32⟩
  | 31 => ⟨S4x96x192x192x4, .i32⟩
  | 32 => ⟨S_, .i32⟩
  | 33 => ⟨S4x96x192x192x4, .i32⟩
  | 34 => ⟨S4x96x192x192x4, .i32⟩
  | 35 => ⟨S_, .i32⟩
  | 36 => ⟨S4x96x192x192x4, .i32⟩
  | 37 => ⟨S4x96x192x192x4, .i32⟩
  | 38 => ⟨S4x96x192x192x4, .i32⟩
  | 39 => ⟨S4x96x192x192x4, .i32⟩
  | 40 => ⟨S4x96x192x192x4, .i32⟩
  | 41 => ⟨S_, .i32⟩
  | 42 => ⟨S4x96x192x192x4, .i32⟩
  | 43 => ⟨S4x96x192x192x4, .i32⟩
  | 44 => ⟨S_, .i32⟩
  | 45 => ⟨S4x96x192x192x4, .i32⟩
  | 46 => ⟨S4x96x192x192x4, .i32⟩
  | 47 => ⟨S4x96x192x192x4, .i32⟩
  | 48 => ⟨S4x96x192x192x4, .i32⟩
  | 49 => ⟨S4x96x192x192x4, .i32⟩
  | 50 => ⟨S4x96x192x192x4, .i32⟩
  | 51 => ⟨S4x96x192x192x4, .i32⟩
  | 52 => ⟨S4x96x192x192x4, .i32⟩
  | 53 => ⟨S_, .i32⟩
  | 54 => ⟨S4x96x192x192x4, .i32⟩
  | 55 => ⟨S4x96x192x192x4, .i32⟩
  | 56 => ⟨S4x96x192x192x4, .i32⟩
  | 57 => ⟨S_, .i32⟩
  | 58 => ⟨S4x96x192x192x4, .i32⟩
  | 59 => ⟨S4x96x192x192x4, .i32⟩
  | 60 => ⟨S_, .i32⟩
  | 61 => ⟨S4x96x192x192x4, .i32⟩
  | 62 => ⟨S4x96x192x192x4, .i32⟩
  | 63 => ⟨S4x96x192x192x4, .i32⟩
  | 64 => ⟨S4x96x192x192x4, .i32⟩
  | 65 => ⟨S4x96x192x192x4, .i32⟩
  | 66 => ⟨S_, .i32⟩
  | 67 => ⟨S4x96x192x192x4, .i32⟩
  | 68 => ⟨S4x96x192x192x4, .i32⟩
  | 69 => ⟨S_, .i32⟩
  | 70 => ⟨S4x96x192x192x4, .i32⟩
  | 71 => ⟨S4x96x192x192x4, .i32⟩
  | 72 => ⟨S4x96x192x192x4, .i32⟩
  | 73 => ⟨S4x96x192x192x4, .i32⟩
  | 74 => ⟨S4x96x192x192x4, .i32⟩
  | 75 => ⟨S_, .i32⟩
  | 76 => ⟨S4x96x192x192x4, .i32⟩
  | 77 => ⟨S4x96x192x192x4, .i32⟩
  | 78 => ⟨S_, .i32⟩
  | 79 => ⟨S4x96x192x192x4, .i32⟩
  | 80 => ⟨S4x96x192x192x4, .i32⟩
  | 81 => ⟨S4x96x192x192x4, .i32⟩
  | 82 => ⟨S4x96x192x192x4, .i32⟩
  | 83 => ⟨S4x96x192x192x4, .i32⟩
  | 84 => ⟨S_, .i32⟩
  | 85 => ⟨S4x96x192x192x4, .i32⟩
  | 86 => ⟨S4x96x192x192x4, .i32⟩
  | 87 => ⟨S_, .i32⟩
  | 88 => ⟨S4x96x192x192x4, .i32⟩
  | 89 => ⟨S4x96x192x192x4, .i32⟩
  | 90 => ⟨S4x96x192x192x4, .i32⟩
  | 91 => ⟨S4x96x192x192x4, .i32⟩
  | 92 => ⟨S4x96x192x192x4, .i32⟩
  | 93 => ⟨S4x96x192x192x4, .i32⟩
  | 94 => ⟨S4x96x192x192x4, .i32⟩
  | 95 => ⟨S4x96x192x192x4, .i32⟩
  | 96 => ⟨S_, .i32⟩
  | 97 => ⟨S4x96x192x192x4, .i32⟩
  | 98 => ⟨S4x96x192x192x4, .i32⟩
  | 99 => ⟨S4x96x192x192x4, .i32⟩
  | 100 => ⟨S_, .i32⟩
  | 101 => ⟨S4x96x192x192x4, .i32⟩
  | 102 => ⟨S4x96x192x192x4, .i32⟩
  | 103 => ⟨S_, .i32⟩
  | 104 => ⟨S4x96x192x192x4, .i32⟩
  | 105 => ⟨S4x96x192x192x4, .i32⟩
  | 106 => ⟨S4x96x192x192x4, .i32⟩
  | 107 => ⟨S4x96x192x192x4, .i32⟩
  | 108 => ⟨S4x96x192x192x4, .i32⟩
  | 109 => ⟨S_, .i32⟩
  | 110 => ⟨S4x96x192x192x4, .i32⟩
  | 111 => ⟨S4x96x192x192x4, .i32⟩
  | 112 => ⟨S_, .i32⟩
  | 113 => ⟨S4x96x192x192x4, .i32⟩
  | 114 => ⟨S4x96x192x192x4, .i32⟩
  | 115 => ⟨S4x96x192x192x4, .i32⟩
  | 116 => ⟨S4x96x192x192x4, .i32⟩
  | 117 => ⟨S4x96x192x192x4, .i32⟩
  | 118 => ⟨S_, .i32⟩
  | 119 => ⟨S4x96x192x192x4, .i32⟩
  | 120 => ⟨S4x96x192x192x4, .i32⟩
  | 121 => ⟨S_, .i32⟩
  | 122 => ⟨S4x96x192x192x4, .i32⟩
  | 123 => ⟨S4x96x192x192x4, .i32⟩
  | 124 => ⟨S4x96x192x192x4, .i32⟩
  | 125 => ⟨S4x96x192x192x4, .i32⟩
  | 126 => ⟨S4x96x192x192x4, .i32⟩
  | 127 => ⟨S_, .i32⟩
  | _ => ⟨S4x96x384x384, .f32⟩

abbrev hbmTy0_2 (i : Nat) : BufTy := match i % 128 with
  | 0 => ⟨S4x96x192x192x4, .i32⟩
  | 1 => ⟨S4x96x192x192x4, .i32⟩
  | 2 => ⟨S_, .i32⟩
  | 3 => ⟨S4x96x192x192x4, .i32⟩
  | 4 => ⟨S4x96x192x192x4, .i32⟩
  | 5 => ⟨S4x96x192x192x4, .i32⟩
  | 6 => ⟨S4x96x192x192x4, .i32⟩
  | 7 => ⟨S4x96x192x192x4, .i32⟩
  | 8 => ⟨S4x96x192x192x4, .i32⟩
  | 9 => ⟨S4x96x192x192x4, .i32⟩
  | 10 => ⟨S4x96x192x192x4, .i32⟩
  | 11 => ⟨S_, .i32⟩
  | 12 => ⟨S4x96x192x192x4, .i32⟩
  | 13 => ⟨S4x96x192x192x4, .i32⟩
  | 14 => ⟨S4x96x192x192x4, .i32⟩
  | 15 => ⟨S_, .i32⟩
  | 16 => ⟨S4x96x192x192x4, .i32⟩
  | 17 => ⟨S4x96x192x192x4, .i32⟩
  | 18 => ⟨S_, .i32⟩
  | 19 => ⟨S4x96x192x192x4, .i32⟩
  | 20 => ⟨S4x96x192x192x4, .i32⟩
  | 21 => ⟨S4x96x192x192x4, .f32⟩
  | 22 => ⟨S_, .f32⟩
  | 23 => ⟨S4x96x192x192x4, .f32⟩
  | 24 => ⟨S4x96x192x192x4, .f32⟩
  | 25 => ⟨S_, .f32⟩
  | 26 => ⟨S4x96x192x192x4, .f32⟩
  | 27 => ⟨S4x96x192x192x4, .f32⟩
  | 28 => ⟨S4x96x192x192x4, .f32⟩
  | 29 => ⟨S4x96x192x192x4, .f32⟩
  | 30 => ⟨S4x96x192x192x4, .f32⟩
  | 31 => ⟨S4x96x192x192x4, .f32⟩
  | 32 => ⟨S4x96x192x192x4, .f32⟩
  | 33 => ⟨S4x96x192x192x4, .i32⟩
  | 34 => ⟨S_, .f32⟩
  | 35 => ⟨S_, .i32⟩
  | 36 => ⟨S4x96x192x192, .f32⟩
  | 37 => ⟨S4x96x192x192, .i32⟩
  | 38 => ⟨S4x96x192x192, .f32⟩
  | _ => ⟨S4x96x384x384, .f32⟩

abbrev hbmTy (i : Nat) : BufTy := match i / 128 with
  | 0 => hbmTy0_0 i
  | 1 => hbmTy0_1 i
  | 2 => hbmTy0_2 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_2 : Ref sig .tc := ⟨.hbm, 24, rfl⟩
abbrev main_v20 : Ref sig .tc := ⟨.hbm, 25, rfl⟩
abbrev main_v21 : Ref sig .tc := ⟨.hbm, 26, rfl⟩
abbrev main_c_3 : Ref sig .tc := ⟨.hbm, 27, rfl⟩
abbrev main_v22 : Ref sig .tc := ⟨.hbm, 28, rfl⟩
abbrev main_v23 : Ref sig .tc := ⟨.hbm, 29, rfl⟩
abbrev main_c_4 : Ref sig .tc := ⟨.hbm, 30, rfl⟩
abbrev main_v24 : Ref sig .tc := ⟨.hbm, 31, rfl⟩
abbrev main_v25 : Ref sig .tc := ⟨.hbm, 32, rfl⟩
abbrev main_c_5 : Ref sig .tc := ⟨.hbm, 33, rfl⟩
abbrev main_v26 : Ref sig .tc := ⟨.hbm, 34, rfl⟩
abbrev main_v27 : Ref sig .tc := ⟨.hbm, 35, rfl⟩
abbrev main_c_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_c_0 : Ref sig .tc := ⟨.hbm, 56, rfl⟩
abbrev main_call0_v7 : Ref sig .tc := ⟨.hbm, 57, rfl⟩
abbrev main_call0_v8 : Ref sig .tc := ⟨.hbm, 58, rfl⟩
abbrev main_call0_c_1 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_c_2 : Ref sig .tc := ⟨.hbm, 65, rfl⟩
abbrev main_call0_v14 : Ref sig .tc := ⟨.hbm, 66, rfl⟩
abbrev main_call0_v15 : Ref sig .tc := ⟨.hbm, 67, rfl⟩
abbrev main_call0_c_3 : Ref sig .tc := ⟨.hbm, 68, rfl⟩
abbrev main_call0_v16 : Ref sig .tc := ⟨.hbm, 69, rfl⟩
abbrev main_call0_v17 : Ref sig .tc := ⟨.hbm, 70, rfl⟩
abbrev main_call0_v18 : Ref sig .tc := ⟨.hbm, 71, rfl⟩
abbrev main_call0_v19 : Ref sig .tc := ⟨.hbm, 72, rfl⟩
abbrev main_call0_v20 : Ref sig .tc := ⟨.hbm, 73, rfl⟩
abbrev main_call0_c_4 : Ref sig .tc := ⟨.hbm, 74, rfl⟩
abbrev main_call0_v21 : Ref sig .tc := ⟨.hbm, 75, rfl⟩
abbrev main_call0_v22 : Ref sig .tc := ⟨.hbm, 76, rfl⟩
abbrev main_call0_c_5 : Ref sig .tc := ⟨.hbm, 77, rfl⟩
abbrev main_call0_v23 : Ref sig .tc := ⟨.hbm, 78, rfl⟩
abbrev main_call0_v24 : Ref sig .tc := ⟨.hbm, 79, rfl⟩
abbrev main_call0_v25 : Ref sig .tc := ⟨.hbm, 80, rfl⟩
abbrev main_call0_v26 : Ref sig .tc := ⟨.hbm, 81, rfl⟩
abbrev main_call0_v27 : Ref sig .tc := ⟨.hbm, 82, rfl⟩
abbrev main_call0_c_6 : Ref sig .tc := ⟨.hbm, 83, rfl⟩
abbrev main_call0_v28 : Ref sig .tc := ⟨.hbm, 84, rfl⟩
abbrev main_call0_v29 : Ref sig .tc := ⟨.hbm, 85, rfl⟩
abbrev main_call0_c_7 : Ref sig .tc := ⟨.hbm, 86, rfl⟩
abbrev main_call0_v30 : Ref sig .tc := ⟨.hbm, 87, rfl⟩
abbrev main_call0_v31 : Ref sig .tc := ⟨.hbm, 88, rfl⟩
abbrev main_call0_v32 : Ref sig .tc := ⟨.hbm, 89, rfl⟩
abbrev main_call0_v33 : Ref sig .tc := ⟨.hbm, 90, rfl⟩
abbrev main_call0_v34 : Ref sig .tc := ⟨.hbm, 91, rfl⟩
abbrev main_call0_v35 : Ref sig .tc := ⟨.hbm, 92, rfl⟩
abbrev main_call0_v36 : Ref sig .tc := ⟨.hbm, 93, rfl⟩
abbrev main_call0_v37 : Ref sig .tc := ⟨.hbm, 94, rfl⟩
abbrev main_call0_c_8 : Ref sig .tc := ⟨.hbm, 95, rfl⟩
abbrev main_call0_v38 : Ref sig .tc := ⟨.hbm, 96, rfl⟩
abbrev main_call0_v39 : Ref sig .tc := ⟨.hbm, 97, rfl⟩
abbrev main_call0_v40 : Ref sig .tc := ⟨.hbm, 98, rfl⟩
abbrev main_call0_c_9 : Ref sig .tc := ⟨.hbm, 99, rfl⟩
abbrev main_call0_v41 : Ref sig .tc := ⟨.hbm, 100, rfl⟩
abbrev main_call0_v42 : Ref sig .tc := ⟨.hbm, 101, rfl⟩
abbrev main_call0_c_10 : Ref sig .tc := ⟨.hbm, 102, rfl⟩
abbrev main_call0_v43 : Ref sig .tc := ⟨.hbm, 103, rfl⟩
abbrev main_call0_v44 : Ref sig .tc := ⟨.hbm, 104, rfl⟩
abbrev main_call0_v45 : Ref sig .tc := ⟨.hbm, 105, rfl⟩
abbrev main_call0_v46 : Ref sig .tc := ⟨.hbm, 106, rfl⟩
abbrev main_call0_v47 : Ref sig .tc := ⟨.hbm, 107, rfl⟩
abbrev main_call0_c_11 : Ref sig .tc := ⟨.hbm, 108, rfl⟩
abbrev main_call0_v48 : Ref sig .tc := ⟨.hbm, 109, rfl⟩
abbrev main_call0_v49 : Ref sig .tc := ⟨.hbm, 110, rfl⟩
abbrev main_call0_c_12 : Ref sig .tc := ⟨.hbm, 111, rfl⟩
abbrev main_call0_v50 : Ref sig .tc := ⟨.hbm, 112, rfl⟩
abbrev main_call0_v51 : Ref sig .tc := ⟨.hbm, 113, rfl⟩
abbrev main_call0_v52 : Ref sig .tc := ⟨.hbm, 114, rfl⟩
abbrev main_call0_v53 : Ref sig .tc := ⟨.hbm, 115, rfl⟩
abbrev main_call0_v54 : Ref sig .tc := ⟨.hbm, 116, rfl⟩
abbrev main_call0_c_13 : Ref sig .tc := ⟨.hbm, 117, rfl⟩
abbrev main_call0_v55 : Ref sig .tc := ⟨.hbm, 118, rfl⟩
abbrev main_call0_v56 : Ref sig .tc := ⟨.hbm, 119, rfl⟩
abbrev main_call0_c_14 : Ref sig .tc := ⟨.hbm, 120, rfl⟩
abbrev main_call0_v57 : Ref sig .tc := ⟨.hbm, 121, rfl⟩
abbrev main_call0_v58 : Ref sig .tc := ⟨.hbm, 122, rfl⟩
abbrev main_call0_v59 : Ref sig .tc := ⟨.hbm, 123, rfl⟩
abbrev main_call0_v60 : Ref sig .tc := ⟨.hbm, 124, rfl⟩
abbrev main_call0_v61 : Ref sig .tc := ⟨.hbm, 125, rfl⟩
abbrev main_call0_c_15 : Ref sig .tc := ⟨.hbm, 126, rfl⟩
abbrev main_call0_v62 : Ref sig .tc := ⟨.hbm, 127, rfl⟩
abbrev main_call0_v63 : Ref sig .tc := ⟨.hbm, 128, rfl⟩
abbrev main_call0_c_16 : Ref sig .tc := ⟨.hbm, 129, rfl⟩
abbrev main_call0_v64 : Ref sig .tc := ⟨.hbm, 130, rfl⟩
abbrev main_call0_v65 : Ref sig .tc := ⟨.hbm, 131, rfl⟩
abbrev main_call0_v66 : Ref sig .tc := ⟨.hbm, 132, rfl⟩
abbrev main_call0_v67 : Ref sig .tc := ⟨.hbm, 133, rfl⟩
abbrev main_call0_v68 : Ref sig .tc := ⟨.hbm, 134, rfl⟩
abbrev main_call0_v69 : Ref sig .tc := ⟨.hbm, 135, rfl⟩
abbrev main_call0_v70 : Ref sig .tc := ⟨.hbm, 136, rfl⟩
abbrev main_call0_v71 : Ref sig .tc := ⟨.hbm, 137, rfl⟩
abbrev main_call0_c_17 : Ref sig .tc := ⟨.hbm, 138, rfl⟩
abbrev main_call0_v72 : Ref sig .tc := ⟨.hbm, 139, rfl⟩
abbrev main_call0_v73 : Ref sig .tc := ⟨.hbm, 140, rfl⟩
abbrev main_call0_v74 : Ref sig .tc := ⟨.hbm, 141, rfl⟩
abbrev main_call0_c_18 : Ref sig .tc := ⟨.hbm, 142, rfl⟩
abbrev main_call0_v75 : Ref sig .tc := ⟨.hbm, 143, rfl⟩
abbrev main_call0_v76 : Ref sig .tc := ⟨.hbm, 144, rfl⟩
abbrev main_call0_c_19 : Ref sig .tc := ⟨.hbm, 145, rfl⟩
abbrev main_call0_v77 : Ref sig .tc := ⟨.hbm, 146, rfl⟩
abbrev main_call0_v78 : Ref sig .tc := ⟨.hbm, 147, rfl⟩
abbrev main_call0_v79 : Ref sig .tc := ⟨.hbm, 148, rfl⟩
abbrev main_call0_v80 : Ref sig .tc := ⟨.hbm, 149, rfl⟩
abbrev main_call0_v81 : Ref sig .tc := ⟨.hbm, 150, rfl⟩
abbrev main_call0_c_20 : Ref sig .tc := ⟨.hbm, 151, rfl⟩
abbrev main_call0_v82 : Ref sig .tc := ⟨.hbm, 152, rfl⟩
abbrev main_call0_v83 : Ref sig .tc := ⟨.hbm, 153, rfl⟩
abbrev main_call0_c_21 : Ref sig .tc := ⟨.hbm, 154, rfl⟩
abbrev main_call0_v84 : Ref sig .tc := ⟨.hbm, 155, rfl⟩
abbrev main_call0_v85 : Ref sig .tc := ⟨.hbm, 156, rfl⟩
abbrev main_call0_v86 : Ref sig .tc := ⟨.hbm, 157, rfl⟩
abbrev main_call0_v87 : Ref sig .tc := ⟨.hbm, 158, rfl⟩
abbrev main_call0_v88 : Ref sig .tc := ⟨.hbm, 159, rfl⟩
abbrev main_call0_c_22 : Ref sig .tc := ⟨.hbm, 160, rfl⟩
abbrev main_call0_v89 : Ref sig .tc := ⟨.hbm, 161, rfl⟩
abbrev main_call0_v90 : Ref sig .tc := ⟨.hbm, 162, rfl⟩
abbrev main_call0_c_23 : Ref sig .tc := ⟨.hbm, 163, rfl⟩
abbrev main_call0_v91 : Ref sig .tc := ⟨.hbm, 164, rfl⟩
abbrev main_call0_v92 : Ref sig .tc := ⟨.hbm, 165, rfl⟩
abbrev main_call0_v93 : Ref sig .tc := ⟨.hbm, 166, rfl⟩
abbrev main_call0_v94 : Ref sig .tc := ⟨.hbm, 167, rfl⟩
abbrev main_call0_v95 : Ref sig .tc := ⟨.hbm, 168, rfl⟩
abbrev main_call0_c_24 : Ref sig .tc := ⟨.hbm, 169, rfl⟩
abbrev main_call0_v96 : Ref sig .tc := ⟨.hbm, 170, rfl⟩
abbrev main_call0_v97 : Ref sig .tc := ⟨.hbm, 171, rfl⟩
abbrev main_call0_c_25 : Ref sig .tc := ⟨.hbm, 172, rfl⟩
abbrev main_call0_v98 : Ref sig .tc := ⟨.hbm, 173, rfl⟩
abbrev main_call0_v99 : Ref sig .tc := ⟨.hbm, 174, rfl⟩
abbrev main_call0_v100 : Ref sig .tc := ⟨.hbm, 175, rfl⟩
abbrev main_call0_v101 : Ref sig .tc := ⟨.hbm, 176, rfl⟩
abbrev main_call0_v102 : Ref sig .tc := ⟨.hbm, 177, rfl⟩
abbrev main_call0_v103 : Ref sig .tc := ⟨.hbm, 178, rfl⟩
abbrev main_call0_v104 : Ref sig .tc := ⟨.hbm, 179, rfl⟩
abbrev main_call0_v105 : Ref sig .tc := ⟨.hbm, 180, rfl⟩
abbrev main_call0_c_26 : Ref sig .tc := ⟨.hbm, 181, rfl⟩
abbrev main_call0_v106 : Ref sig .tc := ⟨.hbm, 182, rfl⟩
abbrev main_call0_v107 : Ref sig .tc := ⟨.hbm, 183, rfl⟩
abbrev main_call0_v108 : Ref sig .tc := ⟨.hbm, 184, rfl⟩
abbrev main_call0_c_27 : Ref sig .tc := ⟨.hbm, 185, rfl⟩
abbrev main_call0_v109 : Ref sig .tc := ⟨.hbm, 186, rfl⟩
abbrev main_call0_v110 : Ref sig .tc := ⟨.hbm, 187, rfl⟩
abbrev main_call0_c_28 : Ref sig .tc := ⟨.hbm, 188, rfl⟩
abbrev main_call0_v111 : Ref sig .tc := ⟨.hbm, 189, rfl⟩
abbrev main_call0_v112 : Ref sig .tc := ⟨.hbm, 190, rfl⟩
abbrev main_call0_v113 : Ref sig .tc := ⟨.hbm, 191, rfl⟩
abbrev main_call0_v114 : Ref sig .tc := ⟨.hbm, 192, rfl⟩
abbrev main_call0_v115 : Ref sig .tc := ⟨.hbm, 193, rfl⟩
abbrev main_call0_c_29 : Ref sig .tc := ⟨.hbm, 194, rfl⟩
abbrev main_call0_v116 : Ref sig .tc := ⟨.hbm, 195, rfl⟩
abbrev main_call0_v117 : Ref sig .tc := ⟨.hbm, 196, rfl⟩
abbrev main_call0_c_30 : Ref sig .tc := ⟨.hbm, 197, rfl⟩
abbrev main_call0_v118 : Ref sig .tc := ⟨.hbm, 198, rfl⟩
abbrev main_call0_v119 : Ref sig .tc := ⟨.hbm, 199, rfl⟩
abbrev main_call0_v120 : Ref sig .tc := ⟨.hbm, 200, rfl⟩
abbrev main_call0_v121 : Ref sig .tc := ⟨.hbm, 201, rfl⟩
abbrev main_call0_v122 : Ref sig .tc := ⟨.hbm, 202, rfl⟩
abbrev main_call0_c_31 : Ref sig .tc := ⟨.hbm, 203, rfl⟩
abbrev main_call0_v123 : Ref sig .tc := ⟨.hbm, 204, rfl⟩
abbrev main_call0_v124 : Ref sig .tc := ⟨.hbm, 205, rfl⟩
abbrev main_call0_c_32 : Ref sig .tc := ⟨.hbm, 206, rfl⟩
abbrev main_call0_v125 : Ref sig .tc := ⟨.hbm, 207, rfl⟩
abbrev main_call0_v126 : Ref sig .tc := ⟨.hbm, 208, rfl⟩
abbrev main_call0_v127 : Ref sig .tc := ⟨.hbm, 209, rfl⟩
abbrev main_call0_v128 : Ref sig .tc := ⟨.hbm, 210, rfl⟩
abbrev main_call0_v129 : Ref sig .tc := ⟨.hbm, 211, rfl⟩
abbrev main_call0_c_33 : Ref sig .tc := ⟨.hbm, 212, rfl⟩
abbrev main_call0_v130 : Ref sig .tc := ⟨.hbm, 213, rfl⟩
abbrev main_call0_v131 : Ref sig .tc := ⟨.hbm, 214, rfl⟩
abbrev main_call0_c_34 : Ref sig .tc := ⟨.hbm, 215, rfl⟩
abbrev main_call0_v132 : Ref sig .tc := ⟨.hbm, 216, rfl⟩
abbrev main_call0_v133 : Ref sig .tc := ⟨.hbm, 217, rfl⟩
abbrev main_call0_v134 : Ref sig .tc := ⟨.hbm, 218, rfl⟩
abbrev main_call0_v135 : Ref sig .tc := ⟨.hbm, 219, rfl⟩
abbrev main_call0_v136 : Ref sig .tc := ⟨.hbm, 220, rfl⟩
abbrev main_call0_v137 : Ref sig .tc := ⟨.hbm, 221, rfl⟩
abbrev main_call0_v138 : Ref sig .tc := ⟨.hbm, 222, rfl⟩
abbrev main_call0_v139 : Ref sig .tc := ⟨.hbm, 223, rfl⟩
abbrev main_call0_c_35 : Ref sig .tc := ⟨.hbm, 224, rfl⟩
abbrev main_call0_v140 : Ref sig .tc := ⟨.hbm, 225, rfl⟩
abbrev main_call0_v141 : Ref sig .tc := ⟨.hbm, 226, rfl⟩
abbrev main_call0_v142 : Ref sig .tc := ⟨.hbm, 227, rfl⟩
abbrev main_call0_c_36 : Ref sig .tc := ⟨.hbm, 228, rfl⟩
abbrev main_call0_v143 : Ref sig .tc := ⟨.hbm, 229, rfl⟩
abbrev main_call0_v144 : Ref sig .tc := ⟨.hbm, 230, rfl⟩
abbrev main_call0_c_37 : Ref sig .tc := ⟨.hbm, 231, rfl⟩
abbrev main_call0_v145 : Ref sig .tc := ⟨.hbm, 232, rfl⟩
abbrev main_call0_v146 : Ref sig .tc := ⟨.hbm, 233, rfl⟩
abbrev main_call0_v147 : Ref sig .tc := ⟨.hbm, 234, rfl⟩
abbrev main_call0_v148 : Ref sig .tc := ⟨.hbm, 235, rfl⟩
abbrev main_call0_v149 : Ref sig .tc := ⟨.hbm, 236, rfl⟩
abbrev main_call0_c_38 : Ref sig .tc := ⟨.hbm, 237, rfl⟩
abbrev main_call0_v150 : Ref sig .tc := ⟨.hbm, 238, rfl⟩
abbrev main_call0_v151 : Ref sig .tc := ⟨.hbm, 239, rfl⟩
abbrev main_call0_c_39 : Ref sig .tc := ⟨.hbm, 240, rfl⟩
abbrev main_call0_v152 : Ref sig .tc := ⟨.hbm, 241, rfl⟩
abbrev main_call0_v153 : Ref sig .tc := ⟨.hbm, 242, rfl⟩
abbrev main_call0_v154 : Ref sig .tc := ⟨.hbm, 243, rfl⟩
abbrev main_call0_v155 : Ref sig .tc := ⟨.hbm, 244, rfl⟩
abbrev main_call0_v156 : Ref sig .tc := ⟨.hbm, 245, rfl⟩
abbrev main_call0_c_40 : Ref sig .tc := ⟨.hbm, 246, rfl⟩
abbrev main_call0_v157 : Ref sig .tc := ⟨.hbm, 247, rfl⟩
abbrev main_call0_v158 : Ref sig .tc := ⟨.hbm, 248, rfl⟩
abbrev main_call0_c_41 : Ref sig .tc := ⟨.hbm, 249, rfl⟩
abbrev main_call0_v159 : Ref sig .tc := ⟨.hbm, 250, rfl⟩
abbrev main_call0_v160 : Ref sig .tc := ⟨.hbm, 251, rfl⟩
abbrev main_call0_v161 : Ref sig .tc := ⟨.hbm, 252, rfl⟩
abbrev main_call0_v162 : Ref sig .tc := ⟨.hbm, 253, rfl⟩
abbrev main_call0_v163 : Ref sig .tc := ⟨.hbm, 254, rfl⟩
abbrev main_call0_c_42 : Ref sig .tc := ⟨.hbm, 255, rfl⟩
abbrev main_call0_v164 : Ref sig .tc := ⟨.hbm, 256, rfl⟩
abbrev main_call0_v165 : Ref sig .tc := ⟨.hbm, 257, rfl⟩
abbrev main_call0_c_43 : Ref sig .tc := ⟨.hbm, 258, rfl⟩
abbrev main_call0_v166 : Ref sig .tc := ⟨.hbm, 259, rfl⟩
abbrev main_call0_v167 : Ref sig .tc := ⟨.hbm, 260, rfl⟩
abbrev main_call0_v168 : Ref sig .tc := ⟨.hbm, 261, rfl⟩
abbrev main_call0_v169 : Ref sig .tc := ⟨.hbm, 262, rfl⟩
abbrev main_call0_v170 : Ref sig .tc := ⟨.hbm, 263, rfl⟩
abbrev main_v38_0 : Ref sig .tc := ⟨.hbm, 264, rfl⟩
abbrev main_call0_v172 : Ref sig .tc := ⟨.hbm, 265, rfl⟩
abbrev main_call0_v173 : Ref sig .tc := ⟨.hbm, 266, rfl⟩
abbrev main_call0_c_44 : Ref sig .tc := ⟨.hbm, 267, rfl⟩
abbrev main_call0_v174 : Ref sig .tc := ⟨.hbm, 268, rfl⟩
abbrev main_v38_1 : Ref sig .tc := ⟨.hbm, 269, rfl⟩
abbrev main_v39 : Ref sig .tc := ⟨.hbm, 270, rfl⟩
abbrev main_c_8 : Ref sig .tc := ⟨.hbm, 271, rfl⟩
abbrev main_v40 : Ref sig .tc := ⟨.hbm, 272, rfl⟩
abbrev main_v41 : Ref sig .tc := ⟨.hbm, 273, rfl⟩
abbrev main_c_9 : Ref sig .tc := ⟨.hbm, 274, rfl⟩
abbrev main_v42 : Ref sig .tc := ⟨.hbm, 275, rfl⟩
abbrev main_v43 : Ref sig .tc := ⟨.hbm, 276, rfl⟩
abbrev main_v44 : Ref sig .tc := ⟨.hbm, 277, rfl⟩
abbrev main_cst : Ref sig .tc := ⟨.hbm, 278, rfl⟩
abbrev main_v45 : Ref sig .tc := ⟨.hbm, 279, rfl⟩
abbrev main_v46 : Ref sig .tc := ⟨.hbm, 280, rfl⟩
abbrev main_cst_10 : Ref sig .tc := ⟨.hbm, 281, rfl⟩
abbrev main_v47 : Ref sig .tc := ⟨.hbm, 282, rfl⟩
abbrev main_v48 : Ref sig .tc := ⟨.hbm, 283, rfl⟩
abbrev main_v49 : Ref sig .tc := ⟨.hbm, 284, rfl⟩
abbrev main_v50 : Ref sig .tc := ⟨.hbm, 285, rfl⟩
abbrev main_v51 : Ref sig .tc := ⟨.hbm, 286, rfl⟩
abbrev main_v52 : Ref sig .tc := ⟨.hbm, 287, rfl⟩
abbrev main_v53 : Ref sig .tc := ⟨.hbm, 288, rfl⟩
abbrev main_call1_v0 : Ref sig .tc := ⟨.hbm, 289, rfl⟩
abbrev main_call1_cst : Ref sig .tc := ⟨.hbm, 290, rfl⟩
abbrev main_call1_c : Ref sig .tc := ⟨.hbm, 291, rfl⟩
abbrev main_call1_v1_0 : Ref sig .tc := ⟨.hbm, 292, rfl⟩
abbrev main_v54 : Ref sig .tc := ⟨.hbm, 293, rfl⟩
abbrev main_v55 : Ref sig .tc := ⟨.hbm, 294, rfl⟩

abbrev nD : Nat := 1
abbrev τ : Topo := Topo.v7x

variable {F : FTy → Type} [FloatOps F]
-- ==== Proof.Hash.lean ====
/-
  The counter-based random bits, as a function on 32-bit words: one counter hashed by twenty rounds of the
  threefry mixer under the key (0, 42), the same word for the two kernels and for the reference.  Each round is a
  function of the two state words, so that a state is written once however often the next round reads it.
-/
module

public import Idealize.ShloMosaic.PureOps

@[expose] public section

noncomputable section

namespace Cert.Proof

open Idealize.ShloMosaic

/-- A rotation to the left by `r` (`q = 32 - r`), as the kernels write it. -/
def rotl (r q x : BitVec 32) : BitVec 32 := IntOp.ori (IntOp.shli .vector x r) (IntOp.shrui .vector x q)

/-- One mixing round: the sum, then the rotated second word against it. -/
def mix (r q : BitVec 32) (k : BitVec 32 → BitVec 32 → BitVec 32) (x0 x1 : BitVec 32) : BitVec 32 :=
  k (IntOp.addi x0 x1) (IntOp.xori (rotl r q x1) (IntOp.addi x0 x1))

/-- The key words added after a group of four rounds. -/
def inject (a b c : BitVec 32) (k : BitVec 32 → BitVec 32 → BitVec 32) (x0 x1 : BitVec 32) : BitVec 32 :=
  k (IntOp.addi x0 a) (IntOp.addi (IntOp.addi x1 b) c)

/-- The two groups of four rounds. -/
def groupOdd (k : BitVec 32 → BitVec 32 → BitVec 32) : BitVec 32 → BitVec 32 → BitVec 32 :=
  mix 17#32 15#32 (mix 29#32 3#32 (mix 16#32 16#32 (mix 24#32 8#32 k)))
def groupEven (k : BitVec 32 → BitVec 32 → BitVec 32) : BitVec 32 → BitVec 32 → BitVec 32 :=
  mix 13#32 19#32 (mix 15#32 17#32 (mix 26#32 6#32 (mix 6#32 26#32 k)))

/-- What follows the first group of rounds. -/
def hashTail : BitVec 32 → BitVec 32 → BitVec 32 :=
  inject 42#32 466689008#32 1#32 (groupOdd (inject 466689008#32 0#32 2#32 (groupEven (inject 0#32 42#32 3#32 (groupOdd
    (inject 42#32 466689008#32 4#32 (groupEven (inject 466689008#32 0#32 5#32 IntOp.xori))))))))

/-- The random word of a counter (to which the second key word, 42, has been added): the first word starts at the
    first key word 0, so that the first round's sum is the counter itself. -/
def hash (c : BitVec 32) : BitVec 32 :=
  mix 15#32 17#32 (mix 26#32 6#32 (mix 6#32 26#32 hashTail)) c (IntOp.xori (rotl 13#32 19#32 c) c)

variable {F : FTy → Type} [FloatOps F]

/-- The uniform sample of a random word: its top 23 bits as a mantissa under the exponent of 1, less 1, kept from 0. -/
def unif (c : BitVec 32) : F .f32 :=
  FloatOps.maximumf (FloatOps.subf (FloatOps.ofBits .f32 (IntOp.ori (IntOp.shrui .vector (hash c) 9#32) 1065353216#32))
    (Scalar.ofBits .f32 0x3F800000#32)) (Scalar.ofBits .f32 0x00800000#32)

/-- The score the kernels compare: the element over the negated logarithm of the sample. -/
def score (w : F .f32) (c : BitVec 32) : F .f32 :=
  FloatOps.divf w (FloatOps.subf (Scalar.ofBits .f32 0x00000000#32) (FloatOps.log (unif c)))

/-- The index of the first largest of four scores, by the kernels' three strict comparisons. -/
def pick (a b c d : F .f32) : F .f32 :=
  Scalar.select (FloatOps.cmpf .ogt d (FloatOps.maximumf (FloatOps.maximumf a b) c)) (Scalar.ofBits .f32 0x40400000#32)
    (Scalar.select (FloatOps.cmpf .ogt c (FloatOps.maximumf a b)) (Scalar.ofBits .f32 0x40000000#32)
      (Scalar.select (FloatOps.cmpf .ogt b a) (Scalar.ofBits .f32 0x3F800000#32) (Scalar.ofBits .f32 0x00000000#32)))

end Cert.Proof

end
-- ==== Proof.Base.lean ====
/-
  The program as the launch theorem sees it: its threads' labels, the resource algebra, and what a thread holds of a
  buffer whose contents are told through a memref (`Has`).
-/
module

public import proofs.«01_k».proof.Defs
public import proofs.«01_k».proof.Proof.Gen.KernelIdeal.Launch
public import proofs.«01_k».proof.Proof.Hash
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Idealize.ShloMosaic Idealize.SL Idealize.SL.RA Idealize.SL.BI Idealize.SL.Sem
open Idealize.ShloMosaic.SparseCore (S V T)
open Idealize.ShloMosaic.SparseCore.Cfg (HIx Pay)
open Idealize.ShloMosaic.Rounds
open Idealize.SL.BI.BIBase Idealize.SL.BI.Laws Idealize.SL.ProofMode
open Cert.KernelIdeal Cert.KernelIdeal.Gen

variable {F : FTy → Type} [FloatOps F]

/-- Every thread's labels: the kernels' own and the pipeline's. -/
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipeline's rounds, the transfers' counters. -/
abbrev UH : Type := URounds (GSem nD τ sig) ℕ
abbrev UR : Type := URounds (GSem nD τ sig) Unit
abbrev UU : Type := UH × (UR × Counters)

/-- The resources of the proof, over the float values `F`. -/
abbrev MM (F : FTy → Type) : Type _ := MT nD τ sig (HIx 1) (Elt F) ℕ UU ℕ

abbrev EH : Emb UH (MM F) := embL
/-- The pipeline's rounds, inside the right factor. -/
abbrev EP : Emb UR (MM F) := (UEmb.inl : UEmb UR (UR × Counters)).toEmb.trans embR

/-- A memref's buffer held outright over the memref's own elements, reading `B`. -/
def Has {sp : Space} {s : Shape} {e : EltTy} (c : Thread nD τ) (m : Memref sig c.2.kind sp s e) (B : s.Idx → Elt F e) : sProp (MM F) :=
  iprop(∃ f, ⌜m.view.read (Elt F) f = B⌝ ∗ (m.view.loc c ↦[m.view.set]{fullShare} f))

end Cert.Proof
end
-- ==== Proof.ScText.lean ====
/-
  The SparseCore kernel's text, folded: the tile's body as the copies in, the unit computed and the copy out, each
  written once.  The printed body holds the computation of a unit three times (the two halves of a pair and the
  last unit); here it is one function of the buffer it reads, and the printed body IS this text (`body_eq`).
-/
module

public import proofs.«01_k».proof.KernelIdeal
public import proofs.«01_k».proof.Proof.Gen.KernelIdeal
public import proofs.«01_k».proof.Proof.Hash

@[expose] public section

noncomputable section

namespace Cert.Proof.Sc

open Idealize.ShloMosaic Idealize.SL.Sem
open Cert.KernelIdeal Cert.KernelIdeal.Gen

variable {F : FTy → Type} [FloatOps F]

/-- The programs of the tile at the grid point `i`. -/
abbrev TileEff (F : FTy → Type) (i : grid1.Coords) : Type → Type :=
  TpuEff nD τ sig (Elt F) Λ₀ (.scVector ((i 0).castLE hcore1) ((i 1).castLE hsub1))

/-- The lanes' numbers. -/
abbrev lanes : IVec S16 32 := iota .scVector S16 32 [0] iota_S16_d0_w32_scVector

/-- The sixteen picked indices: each lane's four elements under four consecutive counters. -/
def picks (base : IVec S16 32) (a b c d : Vec F S16 .f32) : FVec F S16 .f32 := fun l =>
  pick (score (a l) (base l)) (score (b l) (IntOp.addi (base l) 1#32)) (score (c l) (IntOp.addi (base l) 2#32))
    (score (d l) (IntOp.addi (base l) 3#32))

/-- One vector of sixteen outputs: the four gathers out of the fetched rows, the picks, the store. -/
def vecStep (i : grid1.Coords) (buf : Memref sig .scVector .vmem S96x384 .f32) (out : Memref sig .scVector .vmem S48x192 .f32)
    (r0 : BitVec 32) (jv frow : BitVec 32) (off : Fin 2 → Nat) (hoff : ∀ a, off a + S1x16.size a ≤ S48x192.size a) : Prog (TileEff F i) PUnit := do
  let h1 := (← Prog.lift (TpuEff.assume (k1_chk1 (broadcast S16 r0) (addi (broadcast S16 r0) (broadcast S16 1#32)) (addi (broadcast S16 (Scalar.muli jv 32#32)) (muli lanes (broadcast S16 2#32)))) (k1_chk1.dec _ _ _))).down
  let h2 := (← Prog.lift (TpuEff.assume (k1_chk2 (broadcast S16 r0) (addi (broadcast S16 r0) (broadcast S16 1#32)) (addi (addi (broadcast S16 (Scalar.muli jv 32#32)) (muli lanes (broadcast S16 2#32))) (broadcast S16 1#32))) (k1_chk2.dec _ _ _))).down
  let a ← SparseCore.vectorLoadIdx buf _ (k1_idx1_inb _ _ _ h1) (View.loads_vmem h_S96x384)
  let b ← SparseCore.vectorLoadIdx buf _ (k1_idx2_inb _ _ _ h2) (View.loads_vmem h_S96x384)
  let c ← SparseCore.vectorLoadIdx buf _ (k1_idx3_inb _ _ _ h1) (View.loads_vmem h_S96x384)
  let d ← SparseCore.vectorLoadIdx buf _ (k1_idx4_inb _ _ _ h2) (View.loads_vmem h_S96x384)
  let _ ← Prog.lift (.load out (Rect.unit (s := S48x192) off S1x16.size hoff).toLoadRect (View.loadsAt_vmem h_S1x16))
  Prog.lift (.store out (Rect.unit (s := S48x192) off S1x16.size hoff)
    (shapeCast S1x16 (picks (addi (broadcast S16 (Scalar.addi frow (Scalar.muli jv 64#32))) (muli lanes (broadcast S16 4#32))) a b c d) shapeCasts_S16_S1x16)
    Finset.univ (View.stores_vmem_bits_univ h_S1x16 rfl) (.inl rfl))
  pure ⟨⟩

/-- The first counter of an output row of the unit `g`. -/
def frow (g r : BitVec 32) : BitVec 32 :=
  Scalar.addi (Scalar.addi (Scalar.muli (Scalar.addi 296#32 (Scalar.shrui g 2#32)) 147456#32)
    (Scalar.muli (Scalar.addi (Scalar.muli (Scalar.andi g 3#32) 48#32) r) 768#32)) 42#32

/-- A unit's 48 rows of twelve vectors. -/
def compute (i : grid1.Coords) (buf : Memref sig .scVector .vmem S96x384 .f32) (out : Memref sig .scVector .vmem S48x192 .f32)
    (g : BitVec 32) : Prog (TileEff F i) PUnit :=
  Scf.Loop.for k1_t2_loop k1_t2_ok ⟨⟩ fun r _ => do
    Scf.Loop.for k1_t3_loop k1_t3_ok ⟨⟩ fun j _ =>
      vecStep i buf out (Scalar.muli (Scf.iv 0#32 1#32 r) 2#32) (Scf.iv 0#32 1#32 j) (frow g (Scf.iv 0#32 1#32 r)) (k1_off4 r j) (k1_off4_inb r j)
    pure ⟨⟩

/-- The 96 rows of `x` at an offset, as one array; the 48 rows of the result at one. -/
abbrev xPart (x : Memref sig .scVector .hbm S384x384x384 .f32) (off : Fin 3 → Nat) (h : ∀ a, off a + S1x96x384.size a ≤ S384x384x384.size a) :
    Memref sig .scVector .hbm S96x384 .f32 :=
  (x.slice (Rect.unit (s := S384x384x384) off S1x96x384.size h) (fun _ => rfl)).squeeze S96x384 squeezes_S1x96x384_S96x384
abbrev oPart (o : Memref sig .scVector .hbm S88x192x192 .f32) (off : Fin 3 → Nat) (h : ∀ a, off a + S1x48x192.size a ≤ S88x192x192.size a) :
    Memref sig .scVector .hbm S48x192 .f32 :=
  (o.slice (Rect.unit (s := S88x192x192) off S1x48x192.size h) (fun _ => rfl)).squeeze S48x192 squeezes_S1x48x192_S48x192

/-- A copy in begun, and its end awaited; a unit's rows out and awaited. -/
def fetch (i : grid1.Coords) (x : Memref sig .scVector .hbm S384x384x384 .f32) (buf : Memref sig .scVector .vmem S96x384 .f32) (hbuf : buf.IsWhole)
    (sem : DmaSems sig S_) (off : Fin 3 → Nat) (h : ∀ a, off a + S1x96x384.size a ≤ S384x384x384.size a) : Prog (TileEff F i) PUnit :=
  Prog.lift (.enqueueDma (xPart x off h) (.here buf) (.dma sem.sem) ((View.wordExact_bits rfl).reshape _ _) hbuf.wordExact ⟨Or.inl rfl, trivial⟩)
def await (i : grid1.Coords) (x : Memref sig .scVector .hbm S384x384x384 .f32) (buf : Memref sig .scVector .vmem S96x384 .f32) (hbuf : buf.IsWhole)
    (sem : DmaSems sig S_) (off : Fin 3 → Nat) (h : ∀ a, off a + S1x96x384.size a ≤ S384x384x384.size a) : Prog (TileEff F i) PUnit :=
  Prog.lift (.waitDma2 sem.sem (xPart x off h) buf ((View.wordExact_bits rfl).reshape _ _) hbuf.wordExact)
def copyOut (i : grid1.Coords) (out : Memref sig .scVector .vmem S48x192 .f32) (hout : out.IsWhole) (o : Memref sig .scVector .hbm S88x192x192 .f32)
    (sem : DmaSems sig S_) (off : Fin 3 → Nat) (h : ∀ a, off a + S1x48x192.size a ≤ S88x192x192.size a) : Prog (TileEff F i) PUnit := do
  Prog.lift (.enqueueDma out (.here (oPart o off h)) (.dma sem.sem) hout.wordExact ((View.wordExact_bits rfl).reshape _ _) ⟨Or.inl rfl, trivial⟩)
  Prog.lift (.waitDma2 sem.sem out (oPart o off h) hout.wordExact ((View.wordExact_bits rfl).reshape _ _))

/-- The tile's first unit, and the unit of a pair. -/
def gLo (i : grid1.Coords) : BitVec 32 :=
  Scalar.muli (Scalar.addi (Scalar.muli (BitVec.ofNat 32 (i 1).val) 2#32) (BitVec.ofNat 32 (i 0).val)) 11#32
def gPair (i : grid1.Coords) (t : Fin k1_t1_loop.trips) : BitVec 32 := Scalar.addi (gLo i) (Scalar.muli (Scf.iv 0#32 1#32 t) 2#32)

section
variable (i : grid1.Coords) (x : Memref sig .scVector .hbm S384x384x384 .f32) (hx : x.IsWhole) (o : Memref sig .scVector .hbm S88x192x192 .f32) (ho : o.IsWhole)
  (b0 : Memref sig .scVector .vmem S96x384 .f32) (h0 : b0.IsWhole) (b1 : Memref sig .scVector .vmem S96x384 .f32) (h1 : b1.IsWhole)
  (ob : Memref sig .scVector .vmem S48x192 .f32) (hob : ob.IsWhole) (s0 s1 r0 r1 r2 : DmaSems sig S_)

/-- One trip: the even unit out of the first buffer, the odd one out of the second, each buffer refilled after its use. -/
def pairStep (t : Fin k1_t1_loop.trips) : Prog (TileEff F i) PUnit := do
  await i x b0 h0 s0 (k1_off3 i t) (k1_off3_inb i t)
  compute i b0 ob (gPair i t)
  copyOut i ob hob o r0 (k1_off5 i t) (k1_off5_inb i t)
  fetch i x b0 h0 s0 (k1_off6 i t 2#32) (k1_off6_inb i t 1)
  await i x b1 h1 s1 (k1_off6 i t 1#32) (k1_off6_inb i t 0)
  compute i b1 ob (Scalar.addi (gPair i t) 1#32)
  copyOut i ob hob o r1 (k1_off8 i t) (k1_off8_inb i t)
  fetch i x b1 h1 s1 (k1_off6 i t 3#32) (k1_off6_inb i t 2)
  pure ⟨⟩

/-- The tile's body. -/
def body : Prog (TileEff F i) PUnit := do
  fetch i x b0 h0 s0 (k1_off1 i) (k1_off1_inb i)
  fetch i x b1 h1 s1 (k1_off2 i 1#32) (k1_off2_inb i 0)
  Scf.Loop.for k1_t1_loop k1_t1_ok ⟨⟩ fun t _ => pairStep i x o b0 h0 b1 h1 ob hob s0 s1 r0 r1 t
  await i x b0 h0 s0 (k1_off2 i 10#32) (k1_off2_inb i 1)
  compute i b0 ob (Scalar.addi (gLo i) 10#32)
  copyOut i ob hob o r2 (k1_off10 i) (k1_off10_inb i)
  await i x b1 h1 s1 (k1_off2 i 10#32) (k1_off2_inb i 1)
  pure ⟨⟩

end
end Cert.Proof.Sc
end
-- ==== Proof.ScValue.lean ====
/-
  What one unit computes: the 48 rows of picked indices out of the 96 fetched rows, as one function of them, and the
  vector of sixteen stored at a step as that function's part.
-/
module

public import proofs.«01_k».proof.Proof.ScText
public import Idealize.ShloMosaic.Lib.Pipeline.Value
public import Idealize.ShloMosaic.Lib.Pointwise.Index

@[expose] public section

noncomputable section

namespace Cert.Proof

open Idealize.ShloMosaic Idealize.SL.Sem

variable {F : FTy → Type} [FloatOps F]

/-- The counter of an output element's first input: element `4 * ((ch * 192 + row) * 192 + col)` of the shuffled input,
    under the key's offset. -/
def ctr (ch row col : Nat) : Nat := ch * 147456 + row * 768 + col * 4 + 42

/-- The index picked among four values at a counter. -/
def cell (a b c d : F .f32) (n : Nat) : F .f32 :=
  pick (score a (BitVec.ofNat 32 n)) (score b (BitVec.ofNat 32 (n + 1))) (score c (BitVec.ofNat 32 (n + 2))) (score d (BitVec.ofNat 32 (n + 3)))

namespace Sc
open Cert.KernelIdeal Cert.KernelIdeal.Gen

/-- The 48 rows a unit computes out of the 96 rows it fetched; `n` is the unit's number, `n / 4` its channel past 296 and
    `n % 4` its part of the channel. -/
def unitOut (B : Vec F S96x384 .f32) (n : Nat) : Vec F S48x192 .f32 := fun y =>
  let r := (y 0).val
  let c := (y 1).val
  have hr : r < 48 := (y 0).isLt
  have hc : c < 192 := (y 1).isLt
  cell (B (ix2 ⟨2 * r, by omega⟩ ⟨2 * c, by omega⟩)) (B (ix2 ⟨2 * r, by omega⟩ ⟨2 * c + 1, by omega⟩))
    (B (ix2 ⟨2 * r + 1, by omega⟩ ⟨2 * c, by omega⟩)) (B (ix2 ⟨2 * r + 1, by omega⟩ ⟨2 * c + 1, by omega⟩))
    (ctr (296 + n / 4) (n % 4 * 48 + r) c)

theorem iv_eq (k : Nat) : Scf.iv 0#32 1#32 k = BitVec.ofNat 32 k := by simp [Scf.iv]

theorem shrui2 {n : Nat} (hn : n < 2 ^ 32) : Scalar.shrui (BitVec.ofNat 32 n) 2#32 = BitVec.ofNat 32 (n / 4) := by
  show BitVec.ofNat 32 n >>> 2#32 = _
  apply BitVec.eq_of_toNat_eq
  simp [Nat.shiftRight_eq_div_pow, Nat.mod_eq_of_lt hn]
  omega

theorem andi3 {n : Nat} (hn : n < 2 ^ 32) : Scalar.andi (BitVec.ofNat 32 n) 3#32 = BitVec.ofNat 32 (n % 4) := by
  show BitVec.ofNat 32 n &&& 3#32 = _
  apply BitVec.eq_of_toNat_eq
  simp only [BitVec.toNat_and, BitVec.toNat_ofNat]
  rw [show 3 % 2 ^ 32 = 2 ^ 2 - 1 by decide, Nat.and_two_pow_sub_one_eq_mod]
  omega

theorem addi_ofNat (a b : Nat) : Scalar.addi (BitVec.ofNat 32 a) (BitVec.ofNat 32 b) = BitVec.ofNat 32 (a + b) :=
  (BitVec.ofNat_add a b).symm
theorem muli_ofNat (a b : Nat) : Scalar.muli (BitVec.ofNat 32 a) (BitVec.ofNat 32 b) = BitVec.ofNat 32 (a * b) :=
  (BitVec.ofNat_mul a b).symm

theorem frow_eq {n r : Nat} (hn : n < 352) : frow (BitVec.ofNat 32 n) (BitVec.ofNat 32 r) = BitVec.ofNat 32 (ctr (296 + n / 4) (n % 4 * 48 + r) 0) := by
  unfold frow ctr
  rw [shrui2 (by omega), andi3 (by omega)]
  simp only [addi_ofNat, muli_ofNat]

/-- The lanes' rows and columns of a step's gathers, and its counters. -/
theorem row_apply (r : Nat) (l : S16.Idx) : (broadcast S16 (Scalar.muli (BitVec.ofNat 32 r) 2#32) : IVec S16 32) l = BitVec.ofNat 32 (r * 2) :=
  muli_ofNat _ _
theorem row1_apply (r : Nat) (l : S16.Idx) :
    (addi (broadcast S16 (Scalar.muli (BitVec.ofNat 32 r) 2#32)) (broadcast S16 1#32) : IVec S16 32) l = BitVec.ofNat 32 (r * 2 + 1) := by
  show IntOp.addi (Scalar.muli _ _) 1#32 = _
  rw [muli_ofNat]; exact addi_ofNat _ _
theorem lanes_apply (l : S16.Idx) : lanes l = BitVec.ofNat 32 (l 0).val := iota_single_apply _ _ _ _ _ _
theorem col_apply (j : Nat) (l : S16.Idx) :
    (addi (broadcast S16 (Scalar.muli (BitVec.ofNat 32 j) 32#32)) (muli lanes (broadcast S16 2#32)) : IVec S16 32) l = BitVec.ofNat 32 (j * 32 + (l 0).val * 2) := by
  show IntOp.addi (Scalar.muli _ _) (IntOp.muli (lanes l) 2#32) = _
  rw [lanes_apply, muli_ofNat]
  exact (congrArg _ (muli_ofNat _ _)).trans (addi_ofNat _ _)
theorem col1_apply (j : Nat) (l : S16.Idx) :
    (addi (addi (broadcast S16 (Scalar.muli (BitVec.ofNat 32 j) 32#32)) (muli lanes (broadcast S16 2#32))) (broadcast S16 1#32) : IVec S16 32) l
      = BitVec.ofNat 32 (j * 32 + (l 0).val * 2 + 1) := by
  show IntOp.addi (_ : BitVec 32) 1#32 = _
  rw [col_apply]; exact addi_ofNat _ _
theorem base_apply (q j : Nat) (l : S16.Idx) :
    (addi (broadcast S16 (Scalar.addi (BitVec.ofNat 32 q) (Scalar.muli (BitVec.ofNat 32 j) 64#32))) (muli lanes (broadcast S16 4#32)) : IVec S16 32) l
      = BitVec.ofNat 32 (q + j * 64 + (l 0).val * 4) := by
  show IntOp.addi (Scalar.addi _ (Scalar.muli _ _)) (IntOp.muli (lanes l) 4#32) = _
  rw [lanes_apply, muli_ofNat, addi_ofNat]
  exact (congrArg _ (muli_ofNat _ _)).trans (addi_ofNat _ _)

theorem idx_lt {a b : IVec S16 32} {A B : S16.Idx → Nat} (ha : ∀ l, a l = BitVec.ofNat 32 (A l)) (hb : ∀ l, b l = BitVec.ofNat 32 (B l))
    (hA : ∀ l, A l < 96) (hB : ∀ l, B l < 384) (k : Fin 2) (l : S16.Idx) : ((![a, b] : Fin 2 → IVec S16 32) k l).toNat < S96x384.size k := by
  have := hA l; have := hB l
  match k with
  | ⟨0, _⟩ => show (a l).toNat < 96; rw [ha, BitVec.toNat_ofNat]; omega
  | ⟨1, _⟩ => show (b l).toNat < 384; rw [hb, BitVec.toNat_ofNat]; omega

section
variable {r j : Nat} (hr : r < 48) (hj : j < 12)
include hr hj

theorem chk1 : k1_chk1 (broadcast S16 (Scalar.muli (BitVec.ofNat 32 r) 2#32)) (addi (broadcast S16 (Scalar.muli (BitVec.ofNat 32 r) 2#32)) (broadcast S16 1#32))
    (addi (broadcast S16 (Scalar.muli (BitVec.ofNat 32 j) 32#32)) (muli lanes (broadcast S16 2#32))) := by
  have hl : ∀ l : S16.Idx, (l 0).val < 16 := fun l => (l 0).isLt
  exact ⟨idx_lt (row_apply r) (col_apply j) (fun _ => by omega) (fun l => by have := hl l; omega),
    idx_lt (row1_apply r) (col_apply j) (fun _ => by omega) (fun l => by have := hl l; omega)⟩

theorem chk2 : k1_chk2 (broadcast S16 (Scalar.muli (BitVec.ofNat 32 r) 2#32)) (addi (broadcast S16 (Scalar.muli (BitVec.ofNat 32 r) 2#32)) (broadcast S16 1#32))
    (addi (addi (broadcast S16 (Scalar.muli (BitVec.ofNat 32 j) 32#32)) (muli lanes (broadcast S16 2#32))) (broadcast S16 1#32)) := by
  have hl : ∀ l : S16.Idx, (l 0).val < 16 := fun l => (l 0).isLt
  exact ⟨idx_lt (row_apply r) (col1_apply j) (fun _ => by omega) (fun l => by have := hl l; omega),
    idx_lt (row1_apply r) (col1_apply j) (fun _ => by omega) (fun l => by have := hl l; omega)⟩
end

/-- A gather's lane is the element its two index vectors name. -/
theorem gather_apply (B : Vec F S96x384 .f32) {a b : IVec S16 32} (h : ∀ k l, ((![a, b] : Fin 2 → IVec S16 32) k l).toNat < S96x384.size k) (l : S16.Idx)
    {p q : Nat} (ha : a l = BitVec.ofNat 32 p) (hb : b l = BitVec.ofNat 32 q) (hp : p < 96) (hq : q < 384) :
    loadIdx (F := F) (e := .f32) B ![a, b] h l = B (ix2 ⟨p, hp⟩ ⟨q, hq⟩) := by
  unfold loadIdx
  congr 1
  funext k
  match k with
  | ⟨0, _⟩ => apply Fin.ext; show (a l).toNat = p; rw [ha, BitVec.toNat_ofNat]; omega
  | ⟨1, _⟩ => apply Fin.ext; show (b l).toNat = q; rw [hb, BitVec.toNat_ofNat]; omega

theorem cell_congr {a a' b b' c c' d d' : F .f32} {n n' : Nat} (ha : a = a') (hb : b = b') (hc : c = c') (hd : d = d') (hn : n = n') :
    cell a b c d n = cell a' b' c' d' n' := by rw [ha, hb, hc, hd, hn]

/-- The sixteen picks at step `j` of row `r`, lane by lane, are the unit's result. -/
theorem picks_apply (B : Vec F S96x384 .f32) {n r j : Nat} (hn : n < 352) (hr : r < 48) (hj : j < 12) (h1 h2 h3 h4) (l : S16.Idx) (y : S48x192.Idx)
    (hy0 : (y 0).val = r) (hy1 : (y 1).val = j * 16 + (l 0).val) :
    picks (F := F) (addi (broadcast S16 (Scalar.addi (frow (BitVec.ofNat 32 n) (BitVec.ofNat 32 r)) (Scalar.muli (BitVec.ofNat 32 j) 64#32))) (muli lanes (broadcast S16 4#32)))
      (loadIdx (F := F) (e := .f32) B ![broadcast S16 (Scalar.muli (BitVec.ofNat 32 r) 2#32), addi (broadcast S16 (Scalar.muli (BitVec.ofNat 32 j) 32#32)) (muli lanes (broadcast S16 2#32))] h1)
      (loadIdx (F := F) (e := .f32) B ![broadcast S16 (Scalar.muli (BitVec.ofNat 32 r) 2#32), addi (addi (broadcast S16 (Scalar.muli (BitVec.ofNat 32 j) 32#32)) (muli lanes (broadcast S16 2#32))) (broadcast S16 1#32)] h2)
      (loadIdx (F := F) (e := .f32) B ![addi (broadcast S16 (Scalar.muli (BitVec.ofNat 32 r) 2#32)) (broadcast S16 1#32), addi (broadcast S16 (Scalar.muli (BitVec.ofNat 32 j) 32#32)) (muli lanes (broadcast S16 2#32))] h3)
      (loadIdx (F := F) (e := .f32) B ![addi (broadcast S16 (Scalar.muli (BitVec.ofNat 32 r) 2#32)) (broadcast S16 1#32), addi (addi (broadcast S16 (Scalar.muli (BitVec.ofNat 32 j) 32#32)) (muli lanes (broadcast S16 2#32))) (broadcast S16 1#32)] h4) l
    = unitOut B n y := by
  have hl : (l 0).val < 16 := (l 0).isLt
  unfold picks unitOut
  rw [frow_eq hn, base_apply,
    gather_apply B h1 l (row_apply r l) (col_apply j l) (by omega) (by omega), gather_apply B h2 l (row_apply r l) (col1_apply j l) (by omega) (by omega),
    gather_apply B h3 l (row1_apply r l) (col_apply j l) (by omega) (by omega), gather_apply B h4 l (row1_apply r l) (col1_apply j l) (by omega) (by omega)]
  have e : ∀ k, IntOp.addi (BitVec.ofNat 32 k) 1#32 = BitVec.ofNat 32 (k + 1) ∧ IntOp.addi (BitVec.ofNat 32 k) 2#32 = BitVec.ofNat 32 (k + 2)
      ∧ IntOp.addi (BitVec.ofNat 32 k) 3#32 = BitVec.ofNat 32 (k + 3) := fun k => ⟨addi_ofNat _ _, addi_ofNat _ _, addi_ofNat _ _⟩
  rw [(e _).1, (e _).2.1, (e _).2.2]
  refine cell_congr ?_ ?_ ?_ ?_ ?_
  · congr 2 <;> apply Fin.ext <;> simp only [] <;> omega
  · congr 2 <;> apply Fin.ext <;> simp only [] <;> omega
  · congr 2 <;> apply Fin.ext <;> simp only [] <;> omega
  · congr 2 <;> apply Fin.ext <;> simp only [] <;> omega
  · unfold ctr; simp only [hy0, hy1]; omega

end Sc
end Cert.Proof
end
-- ==== Proof.ScRun.lean ====
/-
  A tile's run over one unit: the vector step, and the 48 rows of twelve vectors, which leave in the output buffer the
  unit's picked indices.
-/
module

public import proofs.«01_k».proof.Proof.Base
public import proofs.«01_k».proof.Proof.ScValue
public import Idealize.ShloMosaic.Lib.SparseCore.Ops

@[expose] public section

noncomputable section

namespace Cert.Proof.Sc

open Idealize.ShloMosaic Idealize.SL Idealize.SL.RA Idealize.SL.BI Idealize.SL.Sem
open Idealize.ShloMosaic.SparseCore (S V T)
open Idealize.ShloMosaic.SparseCore.Cfg (HIx Pay)
open scoped Idealize.SL.BI
open Idealize.SL.BI.BIBase Idealize.SL.BI.Laws Idealize.SL.ProofMode
open Cert.KernelIdeal Cert.KernelIdeal.Gen
open Idealize.ShloMosaic.Tactic

variable {F : FTy → Type} [FloatOps F]

local notation "𝕄" => MM F

/-- The thread of a tile. -/
abbrev tileOf (d : Dev nD) (i : grid1.Coords) : Thread nD τ := V d ((i 0).castLE hcore1) ((i 1).castLE hsub1)

/-- The output buffer holds the unit's first `r` rows, and of row `r` its first `16 * j` places. -/
def Done (G B : Vec F S48x192 .f32) (r j : Nat) : Prop :=
  ∀ y : S48x192.Idx, (y 0).val < r ∨ ((y 0).val = r ∧ (y 1).val < 16 * j) → B y = G y

/-- The output buffer held with a unit's values at its first rows. -/
def HasDone (c : Thread nD τ) (m : Memref sig c.2.kind .vmem S48x192 .f32) (G : Vec F S48x192 .f32) (r j : Nat) : sProp 𝕄 :=
  iprop(∃ B, ⌜Done G B r j⌝ ∗ Has c m B)

variable (d : Dev nD) (i : grid1.Coords)

theorem has_intro {sp : Space} {s : Shape} {e : EltTy} {c : Thread nD τ} {m : Memref sig c.2.kind sp s e} {B : s.Idx → Elt F e} {g : Buf (Elt F) (m.view.loc c)}
    (h : m.view.read (Elt F) g = B) : (m.view.loc c ↦[m.view.set]{fullShare} g : sProp 𝕄) ⊢ Has c m B := by
  unfold Has
  iintro Ho
  iexists _; isplitr
  · ipureintro; exact h
  iexact Ho

theorem hasDone_intro {c : Thread nD τ} {m : Memref sig c.2.kind .vmem S48x192 .f32} {G : Vec F S48x192 .f32} {r j : Nat} {g : Buf (Elt F) (m.view.loc c)}
    (h : Done G (m.view.read (Elt F) g) r j) : (m.view.loc c ↦[m.view.set]{fullShare} g : sProp 𝕄) ⊢ HasDone c m G r j := by
  unfold HasDone Has
  iintro Ho
  iexists _; isplitr
  · ipureintro; exact h
  iexists _; isplitr
  · ipureintro; rfl
  iexact Ho

/-- A vector stored at its place adds sixteen places to a row. -/
theorem done_step {κ : Kind} {sp : Space} (v : View sig κ sp S48x192 .f32) (G : Vec F S48x192 .f32) (r : Fin k1_t2_loop.trips) (j : Fin k1_t3_loop.trips)
    (g : v.ty.Contents (Elt F)) (w : (Rect.unit (s := S48x192) (k1_off4 r j) S1x16.size (k1_off4_inb r j)).shape.Idx → F .f32)
    (h : Done G (v.read (Elt F) g) r.val j.val)
    (hw : ∀ (y : S48x192.Idx) (l : Fin 16), (y 0).val = r.val → (y 1).val = j.val * 16 + l.val → w (ix2 (0 : Fin 1) l) = G y) :
    Done G (v.read (Elt F) (v.writes (Elt F) g [⟨Rect.unit (s := S48x192) (k1_off4 r j) S1x16.size (k1_off4_inb r j), w⟩])) r.val (j.val + 1) := by
  intro y hy
  have e0 : k1_off4 r j 0 = r.val := by rw [k1_off4_eq]; rfl
  have e1 : k1_off4 r j 1 = 16 * j.val := by rw [k1_off4_eq]; rfl
  by_cases hin : (y 0).val = r.val ∧ 16 * j.val ≤ (y 1).val
  · obtain ⟨h0, h1⟩ := hin
    have h1' : (y 1).val < 16 * j.val + 16 := by omega
    refine (View.read_writes_cons_hit_of_coords v g _ w [] (ix2 (0 : Fin 1) (⟨(y 1).val - 16 * j.val, by omega⟩ : Fin 16)) y ?_).trans
      (hw y _ h0 (by show _ = _ + ((y 1).val - 16 * j.val); omega))
    intro a
    match a with
    | 0 => show (y 0).val = k1_off4 r j 0 + 1 * 0; omega
    | 1 => show (y 1).val = k1_off4 r j 1 + 1 * ((y 1).val - 16 * j.val); omega
  · refine Eq.trans ?_ (h y (by omega))
    by_cases h0 : (y 0).val = r.val
    · exact View.read_writes_cons_miss_of_axis v g _ [] y 1 (16 * j.val) 16 e1 rfl rfl (by omega)
    · exact View.read_writes_cons_miss_of_axis v g _ [] y 0 r.val 1 e0 rfl rfl (by omega)

theorem vecStep_wp (buf : Memref sig .scVector .vmem S96x384 .f32) (out : Memref sig .scVector .vmem S48x192 .f32)
    (B : Vec F S96x384 .f32) {n : Nat} (hn : n < 352) (r : Fin k1_t2_loop.trips) (j : Fin k1_t3_loop.trips) :
    iprop(Has (tileOf d i) buf B ∗ HasDone (tileOf d i) out (unitOut B n) r.val j.val)
      ⊢ wp frame (wpE (defs₀ (F := F)) 𝒱₀ (tileOf d i) none) Set.univ
          (vecStep i buf out (Scalar.muli (Scf.iv 0#32 1#32 r.val) 2#32) (Scf.iv 0#32 1#32 j.val) (frow (BitVec.ofNat 32 n) (Scf.iv 0#32 1#32 r.val)) (k1_off4 r j) (k1_off4_inb r j))
          fun _ => iprop(Has (tileOf d i) buf B ∗ HasDone (tileOf d i) out (unitOut B n) r.val (j.val + 1)) := by
  have hr : r.val < 48 := r.isLt
  have hj : j.val < 12 := j.isLt
  conv_lhs => unfold HasDone Has
  iintro ⟨⟨%f, %hf, Hb⟩, %B', %hB', %g, %hg, Ho⟩
  unfold vecStep
  rw [iv_eq, iv_eq]
  simp only [Prog.lift, Prog.bind_op, Prog.bind_ret, Prog.pure_eq_ret]
  rw [wp_assume_of _ _ _ _ (chk1 hr hj)]
  simp only [Prog.bind_op, Prog.bind_ret]
  rw [wp_assume_of _ _ _ _ (chk2 hr hj)]
  simp only [Prog.bind_op, Prog.bind_ret]
  have hset : (buf.access (.whole S96x384)).set = buf.view.set := by
    show (buf.view.slice (Rect.whole S96x384)).set = _
    rw [View.set_slice, Rect.set_whole]; rfl
  have hread : (buf.access (.whole S96x384)).read (Elt F) f = B := by
    rw [← hf]; funext x; show buf.view.read (Elt F) f ((Rect.whole S96x384).emb x) = _
    rw [Rect.emb_whole_apply]
  iapply (SparseCore.wp_vectorLoadIdx 𝒱₀ (tileOf d i) none Set.univ (base := buf) (S := buf.view.set) (q := fullShare) hset.le) $$ Hb
  iintro Hb
  iapply (SparseCore.wp_vectorLoadIdx 𝒱₀ (tileOf d i) none Set.univ (base := buf) (S := buf.view.set) (q := fullShare) hset.le) $$ Hb
  iintro Hb
  iapply (SparseCore.wp_vectorLoadIdx 𝒱₀ (tileOf d i) none Set.univ (base := buf) (S := buf.view.set) (q := fullShare) hset.le) $$ Hb
  iintro Hb
  iapply (SparseCore.wp_vectorLoadIdx 𝒱₀ (tileOf d i) none Set.univ (base := buf) (S := buf.view.set) (q := fullShare) hset.le) $$ Hb
  iintro Hb
  rw [hread]
  iapply (wp_load 𝒱₀ (tileOf d i) none Set.univ (m := out) (S := out.view.set) (View.setOn_subset_set _ _)) $$ Ho
  iintro Ho
  iapply (wp_store_writes₀ 𝒱₀ (tileOf d i) none Set.univ (m := out) (S := out.view.set) (out.view.set_slice_subset _)) $$ Ho
  iintro Ho
  rw [wp_ret]
  imodintro
  isplitl [Hb]
  · iapply (has_intro hf) $$ Hb
  iapply (hasDone_intro (done_step out.view _ r j g _ (hg ▸ hB') fun y l h0 h1 =>
    (shapeCast_addUnit_apply _ _ _ _).trans (picks_apply B hn hr hj _ _ _ _ _ y h0 h1))) $$ Ho

/-- The loop's rule, the loop a record. -/
theorem wp_loop {σ : Type} (l : Scf.Loop 32) (hok : l.OK) (init : σ) (body : Fin l.trips → σ → Prog (TileEff F i) σ) (I : Nat → sProp 𝕄)
    (hbody : ∀ (k : Fin l.trips) (a : σ), I k.val ⊢ wp frame (wpE (defs₀ (F := F)) 𝒱₀ (tileOf d i) none) Set.univ (body k a) fun _ => I (k.val + 1)) :
    I 0 ⊢ wp frame (wpE (defs₀ (F := F)) 𝒱₀ (tileOf d i) none) Set.univ (Scf.Loop.for l hok init body) fun _ => I l.trips := by
  refine BIBase.Entails.trans ?_ (Scf.wp_for frame (wpE (defs₀ (F := F)) 𝒱₀ (tileOf d i) none) Set.univ l.lb l.ub l.st hok init body (fun k _ => I k) hbody)
  iintro HI
  isplitl [HI]; · iexact HI
  iintro %_ HI
  iexact HI

/-- A unit computed: its 48 rows in the output buffer, the fetched rows read only. -/
theorem compute_wp (buf : Memref sig .scVector .vmem S96x384 .f32) (out : Memref sig .scVector .vmem S48x192 .f32)
    (B : Vec F S96x384 .f32) {n : Nat} (hn : n < 352) (B' : Vec F S48x192 .f32) :
    iprop(Has (tileOf d i) buf B ∗ Has (tileOf d i) out B')
      ⊢ wp frame (wpE (defs₀ (F := F)) 𝒱₀ (tileOf d i) none) Set.univ (compute i buf out (BitVec.ofNat 32 n))
          fun _ => iprop(Has (tileOf d i) buf B ∗ Has (tileOf d i) out (unitOut B n)) := by
  unfold compute
  have H := wp_loop (F := F) d i k1_t2_loop k1_t2_ok PUnit.unit
    (fun r _ => (Scf.Loop.for k1_t3_loop k1_t3_ok PUnit.unit fun j _ =>
        vecStep i buf out (Scalar.muli (Scf.iv 0#32 1#32 r) 2#32) (Scf.iv 0#32 1#32 j) (frow (BitVec.ofNat 32 n) (Scf.iv 0#32 1#32 r)) (k1_off4 r j) (k1_off4_inb r j)) >>= fun _ => pure PUnit.unit)
    (fun r => iprop(Has (tileOf d i) buf B ∗ HasDone (tileOf d i) out (unitOut B n) r 0)) ?_
  · refine BIBase.Entails.trans ?_ (H.trans (wp_mono _ _ _ fun _ => ?_))
    · iintro ⟨Hb, Ho⟩
      isplitl [Hb]; · iexact Hb
      unfold HasDone
      iexists B'; isplitr
      · ipureintro
        intro y hy
        omega
      · iexact Ho
    · iintro ⟨Hb, Ho⟩
      isplitl [Hb]; · iexact Hb
      unfold HasDone
      icases Ho with ⟨%C, %hC, Ho⟩
      have e : C = unitOut B n := funext fun y => hC y (.inl (y 0).isLt)
      rw [e]
      iexact Ho
  · intro r _
    rw [wp_bind]
    have H2 := wp_loop (F := F) d i k1_t3_loop k1_t3_ok PUnit.unit
      (fun j _ => vecStep i buf out (Scalar.muli (Scf.iv 0#32 1#32 r) 2#32) (Scf.iv 0#32 1#32 j) (frow (BitVec.ofNat 32 n) (Scf.iv 0#32 1#32 r)) (k1_off4 r j) (k1_off4_inb r j))
      (fun j => iprop(Has (tileOf d i) buf B ∗ HasDone (tileOf d i) out (unitOut B n) r.val j))
      fun j _ => vecStep_wp d i buf out B hn r j
    refine H2.trans (wp_mono _ _ _ fun _ => ?_)
    rw [Prog.pure_eq_ret, wp_ret]
    iintro ⟨Hb, Ho⟩
    imodintro
    isplitl [Hb]; · iexact Hb
    unfold HasDone
    icases Ho with ⟨%C, %hC, Ho⟩
    iexists C; isplitr
    · ipureintro
      intro y hy
      have h1 : (y 1).val < 192 := (y 1).isLt
      have h2 : k1_t3_loop.trips = 12 := rfl
      exact hC y (by omega)
    · iexact Ho

end Cert.Proof.Sc
end
-- ==== Proof.ScOff.lean ====
/-
  Which unit a tile works on at each step, and where the unit's rows lie: the offsets of the copies in closed form.
-/
module

public import proofs.«01_k».proof.Proof.ScText

@[expose] public section

noncomputable section

namespace Cert.Proof.Sc

open Idealize.ShloMosaic
open Cert.KernelIdeal Cert.KernelIdeal.Gen

/-- The first of a tile's eleven units. -/
def unit0 (i : grid1.Coords) : Nat := ((i 1).val * 2 + (i 0).val) * 11

theorem unit0_le (i : grid1.Coords) : unit0 i ≤ 341 := by
  have h1 : (i 1).val < 16 := (i 1).isLt
  have h0 : (i 0).val < 2 := (i 0).isLt
  unfold unit0
  omega

/-- Where a unit's rows begin in the input and in the result. -/
def xOff (n : Nat) : Fin 3 → Nat := ![296 + n / 4, n % 4 * 96, 0]
def oOff (n : Nat) : Fin 3 → Nat := ![n / 4, n % 4 * 48, 0]

theorem off1_eq : ∀ i : grid1.Coords, k1_off1 i = xOff (unit0 i) := by unfold xOff unit0; decide +kernel
theorem off2a_eq : ∀ i : grid1.Coords, k1_off2 i 1#32 = xOff (unit0 i + 1) := by unfold xOff unit0; decide +kernel
theorem off2b_eq : ∀ i : grid1.Coords, k1_off2 i 10#32 = xOff (unit0 i + 10) := by unfold xOff unit0; decide +kernel
theorem off5_eq : ∀ (i : grid1.Coords) (t : Fin k1_t1_loop.trips), k1_off5 i t = oOff (unit0 i + 2 * t.val) := by unfold oOff unit0; decide +kernel
theorem off8_eq : ∀ (i : grid1.Coords) (t : Fin k1_t1_loop.trips), k1_off8 i t = oOff (unit0 i + (2 * t.val + 1)) := by unfold oOff unit0; decide +kernel
theorem off10_eq : ∀ i : grid1.Coords, k1_off10 i = oOff (unit0 i + 10) := by unfold oOff unit0; decide +kernel
theorem off6a_eq : ∀ (i : grid1.Coords) (t : Fin k1_t1_loop.trips), k1_off6 i t 2#32 = xOff (unit0 i + (2 * t.val + 2)) := by unfold xOff unit0; decide +kernel
theorem off6b_eq : ∀ (i : grid1.Coords) (t : Fin k1_t1_loop.trips), k1_off6 i t 3#32 = xOff (unit0 i + min (2 * t.val + 3) 10) := by unfold xOff unit0; decide +kernel
theorem gLo_eq : ∀ i : grid1.Coords, gLo i = BitVec.ofNat 32 (unit0 i) := by unfold gLo unit0; decide +kernel
theorem gLo10_eq : ∀ i : grid1.Coords, Scalar.addi (gLo i) 10#32 = BitVec.ofNat 32 (unit0 i + 10) := by unfold gLo unit0; decide +kernel
theorem gPair_eq : ∀ (i : grid1.Coords) (t : Fin k1_t1_loop.trips), gPair i t = BitVec.ofNat 32 (unit0 i + 2 * t.val) := by unfold gPair gLo unit0; decide +kernel
theorem gPair1_eq : ∀ (i : grid1.Coords) (t : Fin k1_t1_loop.trips), Scalar.addi (gPair i t) 1#32 = BitVec.ofNat 32 (unit0 i + (2 * t.val + 1)) := by unfold gPair gLo unit0; decide +kernel

theorem xOff_inb {n : Nat} (hn : n < 352) : ∀ a, xOff n a + S1x96x384.size a ≤ S384x384x384.size a := by
  intro a
  match a with
  | 0 => show 296 + n / 4 + 1 ≤ 384; omega
  | 1 => show n % 4 * 96 + 96 ≤ 384; omega
  | 2 => show 0 + 384 ≤ 384; omega
theorem oOff_inb {n : Nat} (hn : n < 352) : ∀ a, oOff n a + S1x48x192.size a ≤ S88x192x192.size a := by
  intro a
  match a with
  | 0 => show n / 4 + 1 ≤ 88; omega
  | 1 => show n % 4 * 48 + 48 ≤ 192; omega
  | 2 => show 0 + 192 ≤ 192; omega

end Cert.Proof.Sc
end
-- ==== Proof.ScDma.lean ====
/-
  A tile's copies: rows of `x` fetched into a buffer (begun, then awaited some steps later) and a unit's rows copied
  out, each with what the buffers hold afterwards.
-/
module

public import proofs.«01_k».proof.Proof.ScRun
public import proofs.«01_k».proof.Proof.ScOff

@[expose] public section

noncomputable section

namespace Cert.Proof.Sc

open Idealize.ShloMosaic Idealize.SL Idealize.SL.RA Idealize.SL.BI Idealize.SL.Sem
open Idealize.ShloMosaic.SparseCore (S V T)
open Idealize.ShloMosaic.SparseCore.Cfg (HIx Pay)
open scoped Idealize.SL.BI
open Idealize.SL.BI.BIBase Idealize.SL.BI.Laws Idealize.SL.ProofMode
open Cert.KernelIdeal Cert.KernelIdeal.Gen
open Idealize.ShloMosaic.Tactic
open Idealize.ShloMosaic.Transfers (Flight)

variable {F : FTy → Type} [FloatOps F]

local notation "𝕄" => MM F

/-- The 96 rows of a unit. -/
def unitIn (X : Vec F S384x384x384 .f32) (n : Nat) : Vec F S96x384 .f32 := fun y =>
  have h0 : (y 0).val < 96 := (y 0).isLt
  X (ix3 (n0 := 384) (n1 := 384) (n2 := 384) ⟨(296 + n / 4) % 384, Nat.mod_lt _ (by decide)⟩ ⟨n % 4 * 96 + (y 0).val, by omega⟩ (y 1))

/-- The picked indices of the last 88 channels. -/
def scOut (X : Vec F S384x384x384 .f32) : Vec F S88x192x192 .f32 := fun z =>
  have h0 : (z 0).val < 88 := (z 0).isLt
  have h1 : (z 1).val < 192 := (z 1).isLt
  have h2 : (z 2).val < 192 := (z 2).isLt
  let at' (a b : Nat) (ha : a < 2) (hb : b < 2) : F .f32 :=
    X (ix3 (n0 := 384) (n1 := 384) (n2 := 384) ⟨296 + (z 0).val, by omega⟩ ⟨2 * (z 1).val + a, by omega⟩ ⟨2 * (z 2).val + b, by omega⟩)
  cell (at' 0 0 (by decide) (by decide)) (at' 0 1 (by decide) (by decide)) (at' 1 0 (by decide) (by decide)) (at' 1 1 (by decide) (by decide))
    (ctr (296 + (z 0).val) (z 1).val (z 2).val)

theorem xPart_read (x : Memref sig .scVector .hbm S384x384x384 .f32) {n : Nat} (hn : n < 352) (h) (f : x.view.ty.Contents (Elt F)) :
    (xPart x (xOff n) h).view.read (Elt F) f = unitIn (x.view.read (Elt F) f) n := by
  funext y
  unfold unitIn
  show x.view.read (Elt F) f ((Rect.unit (s := S384x384x384) (xOff n) S1x96x384.size h).emb (Shape.reshapeEquiv _ y)) = _
  rw [Shape.reshapeEquiv_cons_one (d := ![96, 384])]
  congr 1
  funext a
  apply Fin.ext
  match a with
  | 0 => show 296 + n / 4 + 1 * 0 = (296 + n / 4) % 384; omega
  | 1 => show n % 4 * 96 + 1 * (y 0).val = n % 4 * 96 + (y 0).val; omega
  | 2 => show 0 + 1 * (y 1).val = (y 1).val; omega

/-- The places of a unit in the result. -/
def InUnit (n : Nat) (z : S88x192x192.Idx) : Prop := (z 0).val = n / 4 ∧ n % 4 * 48 ≤ (z 1).val ∧ (z 1).val < n % 4 * 48 + 48

theorem oPart_write (o : Memref sig .scVector .hbm S88x192x192 .f32) (off : Fin 3 → Nat) (h) (f : o.view.ty.Contents (Elt F)) (w : Vec F S48x192 .f32) :
    ((oPart o off h).view.write (Elt F) f w Finset.univ : o.view.ty.Contents (Elt F))
      = o.view.writes (Elt F) f [⟨Rect.unit (s := S88x192x192) off S1x48x192.size h, fun x => w ((Shape.reshapeEquiv squeezes_S1x48x192_S48x192.numel_eq).symm x)⟩] :=
  View.write_reshape_univ (o.view.slice (Rect.unit (s := S88x192x192) off S1x48x192.size h)) _ f w

theorem oPart_write_in (o : Memref sig .scVector .hbm S88x192x192 .f32) {n : Nat} (h) (f : o.view.ty.Contents (Elt F))
    (X : Vec F S384x384x384 .f32) (hn : n < 352) (z : S88x192x192.Idx) (hz : InUnit n z) :
    o.view.read (Elt F) ((oPart o (oOff n) h).view.write (Elt F) f (unitOut (unitIn X n) n) Finset.univ) z = scOut X z := by
  obtain ⟨h0, h1, h2⟩ := hz
  have h3 : (z 2).val < 192 := (z 2).isLt
  refine (congrArg (fun g => o.view.read (Elt F) g z) (oPart_write o (oOff n) h f _)).trans ?_
  refine (View.read_writes_cons_hit_of_coords o.view f (Rect.unit (s := S88x192x192) (oOff n) S1x48x192.size h) _ []
    (Shape.reshapeEquiv squeezes_S1x48x192_S48x192.numel_eq (ix2 (⟨(z 1).val - n % 4 * 48, by omega⟩ : Fin 48) (z 2 : Fin 192))) z ?_).trans ?_
  · rw [Shape.reshapeEquiv_cons_one (d := ![48, 192])]
    intro a
    match a with
    | 0 => show (z 0).val = n / 4 + 1 * 0; omega
    | 1 => show (z 1).val = n % 4 * 48 + 1 * ((z 1).val - n % 4 * 48); omega
    | 2 => show (z 2).val = 0 + 1 * (z 2).val; omega
  · rw [Equiv.symm_apply_apply]
    have g0 : (296 + n / 4) % 384 = 296 + (z 0).val := by omega
    have key : ∀ (a b : Nat) (h1 h2 h3 h4 h5 h6), X (ix3 (n0 := 384) (n1 := 384) (n2 := 384) ⟨(296 + n / 4) % 384, h1⟩ ⟨n % 4 * 96 + (2 * ((z 1).val - n % 4 * 48) + a), h2⟩ ⟨2 * (z 2).val + b, h3⟩)
        = X (ix3 (n0 := 384) (n1 := 384) (n2 := 384) ⟨296 + (z 0).val, h4⟩ ⟨2 * (z 1).val + a, h5⟩ ⟨2 * (z 2).val + b, h6⟩) := by
      intro a b _ _ _ _ _ _
      congr 1
      funext t
      apply Fin.ext
      match t with
      | 0 => exact g0
      | 1 => show n % 4 * 96 + (2 * ((z 1).val - n % 4 * 48) + a) = 2 * (z 1).val + a; omega
      | 2 => rfl
    have gc : ctr (296 + n / 4) (n % 4 * 48 + ((z 1).val - n % 4 * 48)) (z 2).val = ctr (296 + (z 0).val) (z 1).val (z 2).val := by
      rw [h0]; congr 1; omega
    exact cell_congr (key 0 0 _ _ _ _ _ _) (key 0 1 _ _ _ _ _ _) (key 1 0 _ _ _ _ _ _) (key 1 1 _ _ _ _ _ _) gc

theorem oPart_write_out (o : Memref sig .scVector .hbm S88x192x192 .f32) {n : Nat} (h) (f : o.view.ty.Contents (Elt F))
    (w : Vec F S48x192 .f32) (z : S88x192x192.Idx) (hz : ¬ InUnit n z) :
    o.view.read (Elt F) ((oPart o (oOff n) h).view.write (Elt F) f w Finset.univ) z = o.view.read (Elt F) f z := by
  refine (congrArg (fun g => o.view.read (Elt F) g z) (oPart_write o (oOff n) h f _)).trans ?_
  unfold InUnit at hz
  by_cases h0 : (z 0).val = n / 4
  · exact View.read_writes_cons_miss_of_axis o.view f ⟨Rect.unit (s := S88x192x192) (oOff n) S1x48x192.size h, _⟩ [] z 1 (n % 4 * 48) 48 rfl rfl rfl (by omega)
  · exact View.read_writes_cons_miss_of_axis o.view f ⟨Rect.unit (s := S88x192x192) (oOff n) S1x48x192.size h, _⟩ [] z 0 (n / 4) 1 rfl rfl rfl (by omega)

variable (d : Dev nD) (i : grid1.Coords)

/-- A fetch under way: awaiting it gives the buffer with the unit's rows, and the share of `x` back. -/
def Fetching (x : Memref sig .scVector .hbm S384x384x384 .f32) (fx : Buf (Elt F) (x.view.loc (tileOf d i))) (q : PosShare TreeShare)
    (buf : Memref sig .scVector .vmem S96x384 .f32) (sem : DmaSems sig S_) (n : Nat) : sProp 𝕄 :=
  iprop(∃ E : sProp 𝕄, Flight countersEmb (tileOf d i) (.dma sem.sem) (default : HIx 1) buf.view.dmaCredit E
    ∗ (E -∗ (Has (tileOf d i) buf (unitIn (x.view.read (Elt F) fx) n) ∗ (x.view.loc (tileOf d i) ↦[x.view.set]{q} fx))))

theorem fetch_wp (x : Memref sig .scVector .hbm S384x384x384 .f32) (fx : Buf (Elt F) (x.view.loc (tileOf d i))) (q : PosShare TreeShare)
    (buf : Memref sig .scVector .vmem S96x384 .f32) (hbuf : buf.IsWhole) (sem : DmaSems sig S_) (off : Fin 3 → Nat) (h) {n : Nat} (hn : n < 352)
    (hoff : off = xOff n) (B : Vec F S96x384 .f32) :
    iprop((x.view.loc (tileOf d i) ↦[x.view.set]{q} fx) ∗ Has (tileOf d i) buf B ∗ semVal (tileOf d i, SemLoc.dma sem.sem) 0)
      ⊢ wp frame (wpE (defs₀ (F := F)) 𝒱₀ (tileOf d i) none) Set.univ (fetch i x buf hbuf sem off h)
          fun _ => Fetching d i x fx q buf sem n := by
  subst hoff
  unfold fetch Has Fetching
  simp only [Prog.lift]
  have hsub : (xPart x (xOff n) h).view.set ⊆ x.view.set := by
    show ((x.view.slice (Rect.unit (s := S384x384x384) (xOff n) S1x96x384.size h)).reshape _ _).set ⊆ _
    rw [View.set_reshape]; exact x.view.set_slice_subset _
  iintro ⟨Hx, ⟨%f, %hf, Hb⟩, Hs⟩
  ihave Hx' := (pointsTo_split_subset hsub).1 $$ Hx
  icases Hx' with ⟨Hp, Hr⟩
  iapply (Transfers.wp_dmaLocal countersEmb 𝒱₀ (tileOf d i) none (src := xPart x (xOff n) h) (dst := buf) (Sd := buf.view.set) (default : HIx 1) buf.view.dmaCredit rfl
    (buf.view.dmaCredit_pos (by decide)) subset_rfl) $$ [Hp Hb Hs]
  · isplitl [Hp]; · iexact Hp
    isplitl [Hb] <;> iassumption
  iintro Hfl
  rw [wp_ret]
  imodintro
  iexists _
  isplitl [Hfl]; · iexact Hfl
  iintro ⟨Hb, Hp⟩
  isplitl [Hb]
  · iapply (has_intro ?_) $$ Hb
    rw [View.read_write_univ]
    exact xPart_read x hn h fx
  · iapply (pointsTo_split_subset hsub).2
    isplitl [Hp] <;> iassumption

theorem await_wp (x : Memref sig .scVector .hbm S384x384x384 .f32) (fx : Buf (Elt F) (x.view.loc (tileOf d i))) (q : PosShare TreeShare)
    (buf : Memref sig .scVector .vmem S96x384 .f32) (hbuf : buf.IsWhole) (sem : DmaSems sig S_) (off : Fin 3 → Nat) (h) {n : Nat}
    (O : CellTallies nD τ sig (HIx 1)) (W : Waits sig (HIx 1)) :
    iprop(Fetching d i x fx q buf sem n ∗ owes (tileOf d i) O W ∗ Transfers.MayWaits (tileOf d i) (default : HIx 1) O)
      ⊢ wp frame (wpE (defs₀ (F := F)) 𝒱₀ (tileOf d i) none) Set.univ (await i x buf hbuf sem off h)
          fun _ => iprop((x.view.loc (tileOf d i) ↦[x.view.set]{q} fx) ∗ Has (tileOf d i) buf (unitIn (x.view.read (Elt F) fx) n)
            ∗ semVal (tileOf d i, SemLoc.dma sem.sem) 0 ∗ owes (tileOf d i) O (insert (SemLoc.dma sem.sem, (default : HIx 1)) W)) := by
  unfold await Fetching
  simp only [Prog.lift]
  iintro ⟨⟨%E, Hfl, HE⟩, HO, Hmw⟩
  iapply (Transfers.wp_waitLocalO countersEmb 𝒱₀ (tileOf d i) none (default : HIx 1) (dstw := buf) rfl) $$ [Hfl HO Hmw]
  · isplitl [Hfl]; · iexact Hfl
    isplitl [HO]; · iexact HO
    iapply (Transfers.MayWaits.elim (.dma sem.sem)) $$ Hmw
  iintro ⟨HD, Hs, HO⟩
  rw [wp_ret]
  imodintro
  ihave HD' := HE $$ HD
  icases HD' with ⟨Hb, Hx⟩
  isplitl [Hx]; · iexact Hx
  isplitl [Hb]; · iexact Hb
  isplitl [Hs] <;> iassumption

theorem copyOut_wp (out : Memref sig .scVector .vmem S48x192 .f32) (hout : out.IsWhole) (o : Memref sig .scVector .hbm S88x192x192 .f32)
    (sem : DmaSems sig S_) (off : Fin 3 → Nat) (h) (hoff : ∃ n, off = oOff n) (So : Finset (Idx (o.view.loc (tileOf d i)))) (hSo : (oPart o off h).view.set ⊆ So)
    (B : Vec F S48x192 .f32) (fo : Buf (Elt F) (o.view.loc (tileOf d i)))
    (O : CellTallies nD τ sig (HIx 1)) (W : Waits sig (HIx 1)) :
    iprop(Has (tileOf d i) out B ∗ (o.view.loc (tileOf d i) ↦[So]{fullShare} fo) ∗ semVal (tileOf d i, SemLoc.dma sem.sem) 0
        ∗ owes (tileOf d i) O W ∗ Transfers.MayWaits (tileOf d i) (default : HIx 1) O)
      ⊢ wp frame (wpE (defs₀ (F := F)) 𝒱₀ (tileOf d i) none) Set.univ (copyOut i out hout o sem off h)
          fun _ => iprop(Has (tileOf d i) out B ∗ (o.view.loc (tileOf d i) ↦[So]{fullShare} ((oPart o off h).view.write (Elt F) fo B Finset.univ))
            ∗ semVal (tileOf d i, SemLoc.dma sem.sem) 0 ∗ owes (tileOf d i) O (insert (SemLoc.dma sem.sem, (default : HIx 1)) W)) := by
  unfold copyOut
  simp only [Prog.lift, Prog.bind_op, Prog.bind_ret]
  conv_lhs => unfold Has
  iintro ⟨⟨%f, %hf, Hb⟩, Ho, Hs, HO, Hmw⟩
  iapply (Transfers.wp_dmaLocal countersEmb 𝒱₀ (tileOf d i) none (src := out) (dst := oPart o off h) (Sd := So) (default : HIx 1) (oPart o off h).view.dmaCredit rfl
    ((oPart o off h).view.dmaCredit_pos (by decide)) hSo) $$ [Hb Ho Hs]
  · isplitl [Hb]; · iexact Hb
    isplitl [Ho] <;> iassumption
  iintro Hfl
  iapply (Transfers.wp_waitLocalO countersEmb 𝒱₀ (tileOf d i) none (default : HIx 1) (dstw := oPart o off h) rfl) $$ [Hfl HO Hmw]
  · isplitl [Hfl]; · iexact Hfl
    isplitl [HO]; · iexact HO
    iapply (Transfers.MayWaits.elim (.dma sem.sem)) $$ Hmw
  iintro ⟨⟨Ho, Hb⟩, Hs, HO⟩
  rw [wp_ret]
  imodintro
  isplitl [Hb]
  · iapply (has_intro hf) $$ Hb
  isplitl [Ho]
  · rw [← hf]; iexact Ho
  isplitl [Hs] <;> iassumption

end Cert.Proof.Sc
end
-- ==== Proof.ScBody.lean ====
/-
  A tile's whole body: eleven units, the fetches in flight across the trips, the result's rows of those units picked.
-/
module

public import proofs.«01_k».proof.Proof.ScDma

@[expose] public section

noncomputable section

namespace Cert.Proof.Sc

open Idealize.ShloMosaic Idealize.SL Idealize.SL.RA Idealize.SL.BI Idealize.SL.Sem
open Idealize.ShloMosaic.SparseCore (S V T)
open Idealize.ShloMosaic.SparseCore.Cfg (HIx Pay)
open scoped Idealize.SL.BI
open Idealize.SL.BI.BIBase Idealize.SL.BI.Laws Idealize.SL.ProofMode
open Cert.KernelIdeal Cert.KernelIdeal.Gen
open Idealize.ShloMosaic.Tactic

variable {F : FTy → Type} [FloatOps F]

local notation "𝕄" => MM F

/-- The first `k` units of the tile are in the result. -/
def Upto (i : grid1.Coords) (X : Vec F S384x384x384 .f32) (k : Nat) (R : Vec F S88x192x192 .f32) : Prop :=
  ∀ m < k, ∀ z, InUnit (unit0 i + m) z → R z = scOut X z

variable (d : Dev nD) (i : grid1.Coords)
variable (x : Memref sig .scVector .hbm S384x384x384 .f32) (fx : Buf (Elt F) (x.view.loc (tileOf d i))) (q0 q1 : PosShare TreeShare)
variable (o : Memref sig .scVector .hbm S88x192x192 .f32) (So : Finset (Idx (o.view.loc (tileOf d i))))
variable (b0 : Memref sig .scVector .vmem S96x384 .f32) (h0 : b0.IsWhole) (b1 : Memref sig .scVector .vmem S96x384 .f32) (h1 : b1.IsWhole)
  (ob : Memref sig .scVector .vmem S48x192 .f32) (hob : ob.IsWhole) (s0 s1 r0 r1 r2 : DmaSems sig S_)
variable (O : CellTallies nD τ sig (HIx 1)) (W : Waits sig (HIx 1))

/-- The tile's part of the result with its first `k` units in it. -/
def OutUpto (k : Nat) : sProp 𝕄 :=
  iprop(∃ fo, ⌜Upto i (x.view.read (Elt F) fx) k (o.view.read (Elt F) fo)⌝ ∗ (o.view.loc (tileOf d i) ↦[So]{fullShare} fo))

/-- What the tile owes, the waits recorded since being at the index without a level. -/
def Owing : sProp 𝕄 := iprop(∃ W', ⌜∀ p ∈ W', p ∈ W ∨ p.2 = none⌝ ∗ owes (tileOf d i) O W')

/-- A memref's buffer at some contents. -/
def Some' {sp : Space} {s : Shape} {e : EltTy} (c : Thread nD τ) (m : Memref sig c.2.kind sp s e) : sProp 𝕄 := iprop(∃ B, Has c m B)

theorem compute_wp' (buf : Memref sig .scVector .vmem S96x384 .f32) (B : Vec F S96x384 .f32) {n : Nat} (hn : n < 352) (g : BitVec 32) (hg : g = BitVec.ofNat 32 n) :
    iprop(Has (tileOf d i) buf B ∗ Some' (tileOf d i) ob)
      ⊢ wp frame (wpE (defs₀ (F := F)) 𝒱₀ (tileOf d i) none) Set.univ (compute i buf ob g)
          fun _ => iprop(Has (tileOf d i) buf B ∗ Has (tileOf d i) ob (unitOut B n)) := by
  subst hg
  unfold Some'
  iintro ⟨Hb, %B', Ho⟩
  iapply (compute_wp d i buf ob B hn B')
  isplitl [Hb] <;> iassumption

theorem await_wp' (q : PosShare TreeShare) (buf : Memref sig .scVector .vmem S96x384 .f32) (hbuf : buf.IsWhole) (sem : DmaSems sig S_) (off : Fin 3 → Nat) (h) {n : Nat} :
    iprop(Fetching d i x fx q buf sem n ∗ Owing d i O W ∗ Transfers.MayWaits (tileOf d i) (default : HIx 1) O)
      ⊢ wp frame (wpE (defs₀ (F := F)) 𝒱₀ (tileOf d i) none) Set.univ (await i x buf hbuf sem off h)
          fun _ => iprop((x.view.loc (tileOf d i) ↦[x.view.set]{q} fx) ∗ Has (tileOf d i) buf (unitIn (x.view.read (Elt F) fx) n)
            ∗ semVal (tileOf d i, SemLoc.dma sem.sem) 0 ∗ Owing d i O W) := by
  unfold Owing
  iintro ⟨Hf, ⟨%W', %hW', HO⟩, Hmw⟩
  iapply (wp_wand _ _ _) $$ [Hf HO Hmw]
  · iapply (await_wp d i x fx q buf hbuf sem off h (n := n) O W')
    isplitl [Hf]; · iexact Hf
    isplitl [HO] <;> iassumption
  iintro %_ ⟨Hx, Hb, Hs, HO⟩
  isplitl [Hx]; · iexact Hx
  isplitl [Hb]; · iexact Hb
  isplitl [Hs]; · iexact Hs
  iexists _; isplitr
  rotate_left
  · iexact HO
  ipureintro
  intro p hp
  rcases Finset.mem_insert.mp hp with hp | hp
  · exact .inr (hp ▸ rfl)
  · exact hW' p hp

theorem copyOut_wp' (hob : ob.IsWhole) (sem : DmaSems sig S_) (off : Fin 3 → Nat) (h) {m : Nat} (hm : m < 11) (hoff : off = oOff (unit0 i + m))
    (hSo : (oPart o off h).view.set ⊆ So) :
    iprop(Has (tileOf d i) ob (unitOut (unitIn (x.view.read (Elt F) fx) (unit0 i + m)) (unit0 i + m)) ∗ OutUpto d i x fx o So m
        ∗ semVal (tileOf d i, SemLoc.dma sem.sem) 0 ∗ Owing d i O W ∗ Transfers.MayWaits (tileOf d i) (default : HIx 1) O)
      ⊢ wp frame (wpE (defs₀ (F := F)) 𝒱₀ (tileOf d i) none) Set.univ (copyOut i ob hob o sem off h)
          fun _ => iprop(Some' (tileOf d i) ob ∗ OutUpto d i x fx o So (m + 1) ∗ semVal (tileOf d i, SemLoc.dma sem.sem) 0 ∗ Owing d i O W) := by
  subst hoff
  unfold Owing OutUpto Some'
  iintro ⟨Hb, ⟨%fo, %hfo, Ho⟩, Hs, ⟨%W', %hW', HO⟩, Hmw⟩
  iapply (wp_wand _ _ _) $$ [Hb Ho Hs HO Hmw]
  · iapply (copyOut_wp d i ob hob o sem _ h ⟨_, rfl⟩ So hSo _ fo O W')
    isplitl [Hb]; · iexact Hb
    isplitl [Ho]; · iexact Ho
    isplitl [Hs]; · iexact Hs
    isplitl [HO] <;> iassumption
  iintro %_ ⟨Hb, Ho, Hs, HO⟩
  isplitl [Hb]; · iexists _; iexact Hb
  isplitl [Ho]
  · iexists _; isplitr
    rotate_left
    · iexact Ho
    ipureintro
    intro k hk z hz
    by_cases hin : InUnit (unit0 i + m) z
    · exact oPart_write_in o h fo (x.view.read (Elt F) fx) (by have := unit0_le i; omega) z hin
    · refine (oPart_write_out o h fo _ z hin).trans ?_
      refine hfo k ?_ z hz
      by_contra hk'
      exact hin ((show k = m by omega) ▸ hz)
  isplitl [Hs]; · iexact Hs
  iexists _; isplitr
  rotate_left
  · iexact HO
  ipureintro
  intro p hp
  rcases Finset.mem_insert.mp hp with hp | hp
  · exact .inr (hp ▸ rfl)
  · exact hW' p hp

/-- Between trips: both fetches under way, `2 * t` units out. -/
def TripInv (t : Nat) : sProp 𝕄 :=
  iprop(Fetching d i x fx q0 b0 s0 (unit0 i + 2 * t) ∗ Fetching d i x fx q1 b1 s1 (unit0 i + min (2 * t + 1) 10)
    ∗ Some' (tileOf d i) ob ∗ OutUpto d i x fx o So (2 * t)
    ∗ semVal (tileOf d i, SemLoc.dma r0.sem) 0 ∗ semVal (tileOf d i, SemLoc.dma r1.sem) 0
    ∗ Owing d i O W ∗ Transfers.MayWaits (tileOf d i) (default : HIx 1) O)

theorem pairStep_wp (hSo : ∀ off h, (∃ m < 11, off = oOff (unit0 i + m)) → (oPart o off h).view.set ⊆ So) (t : Fin k1_t1_loop.trips) :
    TripInv d i x fx q0 q1 o So b0 b1 ob s0 s1 r0 r1 O W t.val
      ⊢ wp frame (wpE (defs₀ (F := F)) 𝒱₀ (tileOf d i) none) Set.univ (pairStep i x o b0 h0 b1 h1 ob hob s0 s1 r0 r1 t)
          fun _ => TripInv d i x fx q0 q1 o So b0 b1 ob s0 s1 r0 r1 O W (t.val + 1) := by
  have ht : t.val < 5 := t.isLt
  have hu := unit0_le i
  unfold TripInv pairStep
  rw [show min (2 * t.val + 1) 10 = 2 * t.val + 1 by omega]
  iintro ⟨Hf0, Hf1, Hob, Ho, Hr0, Hr1, HO, #Hmw⟩
  rw [wp_bind]
  iapply (wp_wand _ _ _) $$ [Hf0 HO]
  · iapply (await_wp' d i x fx O W q0 b0 h0 s0 _ _ (n := unit0 i + 2 * t.val))
    isplitl [Hf0]; · iexact Hf0
    isplitl [HO] <;> iassumption
  iintro %_ ⟨Hx0, Hb0, Hs0, HO⟩
  rw [wp_bind]
  iapply (wp_wand _ _ _) $$ [Hb0 Hob]
  · iapply (compute_wp' d i ob b0 _ (n := unit0 i + 2 * t.val) (by omega) _ (gPair_eq i t))
    isplitl [Hb0] <;> iassumption
  iintro %_ ⟨Hb0, Hob⟩
  rw [wp_bind]
  iapply (wp_wand _ _ _) $$ [Hob Ho Hr0 HO]
  · iapply (copyOut_wp' d i x fx o So ob O W hob r0 _ (k1_off5_inb i t) (m := 2 * t.val) (by omega) (off5_eq i t) (hSo _ _ ⟨2 * t.val, by omega, off5_eq i t⟩))
    isplitl [Hob]; · iexact Hob
    isplitl [Ho]; · iexact Ho
    isplitl [Hr0]; · iexact Hr0
    isplitl [HO] <;> iassumption
  iintro %_ ⟨Hob, Ho, Hr0, HO⟩
  rw [wp_bind]
  iapply (wp_wand _ _ _) $$ [Hx0 Hb0 Hs0]
  · iapply (fetch_wp d i x fx q0 b0 h0 s0 _ _ (n := unit0 i + (2 * t.val + 2)) (by omega) (off6a_eq i t) _)
    isplitl [Hx0]; · iexact Hx0
    isplitl [Hb0] <;> iassumption
  iintro %_ Hf0
  rw [wp_bind]
  iapply (wp_wand _ _ _) $$ [Hf1 HO]
  · iapply (await_wp' d i x fx O W q1 b1 h1 s1 _ _ (n := unit0 i + (2 * t.val + 1)))
    isplitl [Hf1]; · iexact Hf1
    isplitl [HO] <;> iassumption
  iintro %_ ⟨Hx1, Hb1, Hs1, HO⟩
  rw [wp_bind]
  iapply (wp_wand _ _ _) $$ [Hb1 Hob]
  · iapply (compute_wp' d i ob b1 _ (n := unit0 i + (2 * t.val + 1)) (by omega) _ (gPair1_eq i t))
    isplitl [Hb1] <;> iassumption
  iintro %_ ⟨Hb1, Hob⟩
  rw [wp_bind]
  iapply (wp_wand _ _ _) $$ [Hob Ho Hr1 HO]
  · iapply (copyOut_wp' d i x fx o So ob O W hob r1 _ (k1_off8_inb i t) (m := 2 * t.val + 1) (by omega) (off8_eq i t) (hSo _ _ ⟨2 * t.val + 1, by omega, off8_eq i t⟩))
    isplitl [Hob]; · iexact Hob
    isplitl [Ho]; · iexact Ho
    isplitl [Hr1]; · iexact Hr1
    isplitl [HO] <;> iassumption
  iintro %_ ⟨Hob, Ho, Hr1, HO⟩
  rw [wp_bind]
  iapply (wp_wand _ _ _) $$ [Hx1 Hb1 Hs1]
  · iapply (fetch_wp d i x fx q1 b1 h1 s1 _ _ (n := unit0 i + min (2 * t.val + 3) 10) (by omega) (off6b_eq i t) _)
    isplitl [Hx1]; · iexact Hx1
    isplitl [Hb1] <;> iassumption
  iintro %_ Hf1
  rw [Prog.pure_eq_ret, wp_ret]
  imodintro
  rw [show 2 * (t.val + 1) = 2 * t.val + 2 by omega]
  isplitl [Hf0]; · iexact Hf0
  isplitl [Hf1]; · iexact Hf1
  isplitl [Hob]; · iexact Hob
  isplitl [Ho]; · iexact Ho
  isplitl [Hr0]; · iexact Hr0
  isplitl [Hr1]; · iexact Hr1
  isplitl [HO] <;> iassumption

theorem body_wp (hSo : ∀ off h, (∃ m < 11, off = oOff (unit0 i + m)) → (oPart o off h).view.set ⊆ So) :
    iprop((x.view.loc (tileOf d i) ↦[x.view.set]{q0} fx) ∗ (x.view.loc (tileOf d i) ↦[x.view.set]{q1} fx)
        ∗ Some' (tileOf d i) b0 ∗ Some' (tileOf d i) b1 ∗ Some' (tileOf d i) ob ∗ (∃ fo, o.view.loc (tileOf d i) ↦[So]{fullShare} fo)
        ∗ semVal (tileOf d i, SemLoc.dma s0.sem) 0 ∗ semVal (tileOf d i, SemLoc.dma s1.sem) 0
        ∗ semVal (tileOf d i, SemLoc.dma r0.sem) 0 ∗ semVal (tileOf d i, SemLoc.dma r1.sem) 0 ∗ semVal (tileOf d i, SemLoc.dma r2.sem) 0
        ∗ Owing d i O W ∗ Transfers.MayWaits (tileOf d i) (default : HIx 1) O)
      ⊢ wp frame (wpE (defs₀ (F := F)) 𝒱₀ (tileOf d i) none) Set.univ (body i x o b0 h0 b1 h1 ob hob s0 s1 r0 r1 r2)
          fun _ => iprop((x.view.loc (tileOf d i) ↦[x.view.set]{q0} fx) ∗ (x.view.loc (tileOf d i) ↦[x.view.set]{q1} fx)
            ∗ Some' (tileOf d i) b0 ∗ Some' (tileOf d i) b1 ∗ Some' (tileOf d i) ob ∗ OutUpto d i x fx o So 11
            ∗ semVal (tileOf d i, SemLoc.dma s0.sem) 0 ∗ semVal (tileOf d i, SemLoc.dma s1.sem) 0
            ∗ semVal (tileOf d i, SemLoc.dma r0.sem) 0 ∗ semVal (tileOf d i, SemLoc.dma r1.sem) 0 ∗ semVal (tileOf d i, SemLoc.dma r2.sem) 0
            ∗ Owing d i O W) := by
  have hu := unit0_le i
  unfold body
  iintro ⟨Hx0, Hx1, Hb0, Hb1, Hob, ⟨%fo, Ho⟩, Hs0, Hs1, Hr0, Hr1, Hr2, HO, #Hmw⟩
  ihave Hb0' := (Entails.of_eq (show Some' (tileOf d i) b0 = iprop(∃ B, Has (tileOf d i) b0 B) from rfl)) $$ Hb0
  icases Hb0' with ⟨%B0, Hb0⟩
  ihave Hb1' := (Entails.of_eq (show Some' (tileOf d i) b1 = iprop(∃ B, Has (tileOf d i) b1 B) from rfl)) $$ Hb1
  icases Hb1' with ⟨%B1, Hb1⟩
  rw [wp_bind]
  iapply (wp_wand _ _ _) $$ [Hx0 Hb0 Hs0]
  · iapply (fetch_wp d i x fx q0 b0 h0 s0 _ _ (n := unit0 i) (by omega) (off1_eq i) _)
    isplitl [Hx0]; · iexact Hx0
    isplitl [Hb0] <;> iassumption
  iintro %_ Hf0
  rw [wp_bind]
  iapply (wp_wand _ _ _) $$ [Hx1 Hb1 Hs1]
  · iapply (fetch_wp d i x fx q1 b1 h1 s1 _ _ (n := unit0 i + 1) (by omega) (off2a_eq i) _)
    isplitl [Hx1]; · iexact Hx1
    isplitl [Hb1] <;> iassumption
  iintro %_ Hf1
  rw [wp_bind]
  iapply (wp_wand _ _ _) $$ [Hf0 Hf1 Hob Ho Hr0 Hr1 HO]
  · iapply (wp_loop d i k1_t1_loop k1_t1_ok PUnit.unit (fun t _ => pairStep i x o b0 h0 b1 h1 ob hob s0 s1 r0 r1 t)
      (fun t => TripInv d i x fx q0 q1 o So b0 b1 ob s0 s1 r0 r1 O W t)
      (fun t _ => pairStep_wp d i x fx q0 q1 o So b0 h0 b1 h1 ob hob s0 s1 r0 r1 O W hSo t))
    unfold TripInv
    isplitl [Hf0]; · iexact Hf0
    isplitl [Hf1]; · iexact Hf1
    isplitl [Hob]; · iexact Hob
    isplitl [Ho]
    · unfold OutUpto
      iexists fo; isplitr
      · ipureintro; intro m hm; omega
      · iexact Ho
    isplitl [Hr0]; · iexact Hr0
    isplitl [Hr1]; · iexact Hr1
    isplitl [HO] <;> iassumption
  iintro %_ HI
  unfold TripInv
  rw [show k1_t1_loop.trips = 5 from rfl, show min (2 * 5 + 1) 10 = 10 from rfl, show 2 * 5 = 10 from rfl]
  icases HI with ⟨Hf0, Hf1, Hob, Ho, Hr0, Hr1, HO, -⟩
  rw [wp_bind]
  iapply (wp_wand _ _ _) $$ [Hf0 HO]
  · iapply (await_wp' d i x fx O W q0 b0 h0 s0 _ _ (n := unit0 i + 10))
    isplitl [Hf0]; · iexact Hf0
    isplitl [HO] <;> iassumption
  iintro %_ ⟨Hx0, Hb0, Hs0, HO⟩
  rw [wp_bind]
  iapply (wp_wand _ _ _) $$ [Hb0 Hob]
  · iapply (compute_wp' d i ob b0 _ (n := unit0 i + 10) (by omega) _ (gLo10_eq i))
    isplitl [Hb0] <;> iassumption
  iintro %_ ⟨Hb0, Hob⟩
  rw [wp_bind]
  iapply (wp_wand _ _ _) $$ [Hob Ho Hr2 HO]
  · iapply (copyOut_wp' d i x fx o So ob O W hob r2 _ (k1_off10_inb i) (m := 10) (by omega) (off10_eq i) (hSo _ _ ⟨10, by omega, off10_eq i⟩))
    isplitl [Hob]; · iexact Hob
    isplitl [Ho]; · iexact Ho
    isplitl [Hr2]; · iexact Hr2
    isplitl [HO] <;> iassumption
  iintro %_ ⟨Hob, Ho, Hr2, HO⟩
  rw [wp_bind]
  iapply (wp_wand _ _ _) $$ [Hf1 HO]
  · iapply (await_wp' d i x fx O W q1 b1 h1 s1 _ _ (n := unit0 i + 10))
    isplitl [Hf1]; · iexact Hf1
    isplitl [HO] <;> iassumption
  iintro %_ ⟨Hx1, Hb1, Hs1, HO⟩
  rw [Prog.pure_eq_ret, wp_ret]
  imodintro
  isplitl [Hx0]; · iexact Hx0
  isplitl [Hx1]; · iexact Hx1
  isplitl [Hb0]; · unfold Some'; iexists _; iexact Hb0
  isplitl [Hb1]; · unfold Some'; iexists _; iexact Hb1
  isplitl [Hob]; · iexact Hob
  isplitl [Ho]; · iexact Ho
  isplitl [Hs0]; · iexact Hs0
  isplitl [Hs1]; · iexact Hs1
  isplitl [Hr0]; · iexact Hr0
  isplitl [Hr1]; · iexact Hr1
  isplitl [Hr2] <;> iassumption

end Cert.Proof.Sc
end
-- ==== Proof.ScTextEq.lean ====
/-
  The printed SparseCore body is the folded text of `ScText`.  The printed body is cut at fixed places; each cut
  piece that holds a loop is its folded form, and the pieces join by associativity.
-/
module

public import proofs.«01_k».proof.Proof.ScText

@[expose] public section

noncomputable section

namespace Cert.Proof.Sc

open Idealize.ShloMosaic Idealize.SL.Sem
open Cert.KernelIdeal Cert.KernelIdeal.Gen

variable {F : FTy → Type} [FloatOps F]
variable (i : grid1.Coords) (x : Memref sig .scVector .hbm S384x384x384 .f32) (hx : x.IsWhole) (o : Memref sig .scVector .hbm S88x192x192 .f32) (ho : o.IsWhole)
  (b0 : Memref sig .scVector .vmem S96x384 .f32) (h0 : b0.IsWhole) (b1 : Memref sig .scVector .vmem S96x384 .f32) (h1 : b1.IsWhole)
  (ob : Memref sig .scVector .vmem S48x192 .f32) (hob : ob.IsWhole) (s0 s1 r0 r1 r2 : DmaSems sig S_)

set_option maxHeartbeats 40000000 in
/-- The first piece of a trip: the even unit. -/
theorem part35_eq (t : Fin k1_t1_loop.trips) :
    k1_part35 (F := F) i x hx o ho b0 h0 b1 h1 ob hob s0 s1 r0 r1 r2 (gLo i) (Scalar.addi (gLo i) 10#32) lanes 0#32 1#32 t = (do
      await i x b0 h0 s0 (k1_off3 i t) (k1_off3_inb i t)
      compute i b0 ob (gPair i t)
      copyOut i ob hob o r0 (k1_off5 i t) (k1_off5_inb i t)
      pure (gPair i t)) := rfl

/-- The unit fetched last in a trip, as two pieces hand it over. -/
def gNext (t : Fin k1_t1_loop.trips) : BitVec 32 := Scalar.minsi (Scalar.addi (gPair i t) 3#32) (Scalar.addi (gLo i) 10#32)

set_option maxHeartbeats 40000000 in
/-- The second piece of a trip: the odd unit. -/
theorem part36_eq (t : Fin k1_t1_loop.trips) :
    k1_part36 (F := F) i x hx o ho b0 h0 b1 h1 ob hob s0 s1 r0 r1 r2 (Scalar.addi (gLo i) 10#32) lanes t (gPair i t) = (do
      fetch i x b0 h0 s0 (k1_off6 i t 2#32) (k1_off6_inb i t 1)
      await i x b1 h1 s1 (k1_off6 i t 1#32) (k1_off6_inb i t 0)
      compute i b1 ob (Scalar.addi (gPair i t) 1#32)
      copyOut i ob hob o r1 (k1_off8 i t) (k1_off8_inb i t)
      pure ⟨Scalar.shrui (gNext i t) 2#32, Scalar.andi (gNext i t) 3#32, 296#32⟩) := rfl

set_option maxHeartbeats 40000000 in
/-- The piece up to the end of the loop. -/
theorem part54_eq :
    k1_part54 (F := F) i x hx o ho b0 h0 b1 h1 ob hob s0 s1 r0 r1 r2 = (do
      fetch i x b0 h0 s0 (k1_off1 i) (k1_off1_inb i)
      fetch i x b1 h1 s1 (k1_off2 i 1#32) (k1_off2_inb i 0)
      Scf.Loop.for k1_t1_loop k1_t1_ok ⟨⟩ fun t _ => do
        let g ← k1_part35 i x hx o ho b0 h0 b1 h1 ob hob s0 s1 r0 r1 r2 (gLo i) (Scalar.addi (gLo i) 10#32) lanes 0#32 1#32 t
        let _ ← k1_part36 i x hx o ho b0 h0 b1 h1 ob hob s0 s1 r0 r1 r2 (Scalar.addi (gLo i) 10#32) lanes t g
        fetch i x b1 h1 s1 (k1_off6 i t 3#32) (k1_off6_inb i t 2)
        pure ⟨⟩
      pure ⟨Scalar.addi (gLo i) 10#32, lanes, Scalar.addi (gLo i) 10#32,
        Scalar.andi (Scalar.minsi (Scalar.addi (gLo i) 10#32) (Scalar.addi (gLo i) 10#32)) 3#32⟩) := rfl

set_option maxHeartbeats 40000000 in
/-- The whole body is its first piece and then the last unit. -/
theorem body_cut : ∃ f, cc1__mc_pool_sc (F := F) i x hx o ho b0 h0 b1 h1 ob hob s0 s1 r0 r1 r2 =
      (k1_part54 i x hx o ho b0 h0 b1 h1 ob hob s0 s1 r0 r1 r2 >>= f) ∧
    f ⟨Scalar.addi (gLo i) 10#32, lanes, Scalar.addi (gLo i) 10#32,
        Scalar.andi (Scalar.minsi (Scalar.addi (gLo i) 10#32) (Scalar.addi (gLo i) 10#32)) 3#32⟩ =
      (await i x b0 h0 s0 (k1_off2 i 10#32) (k1_off2_inb i 1) >>= fun _ =>
        compute i b0 ob (Scalar.addi (gLo i) 10#32) >>= fun _ =>
        copyOut i ob hob o r2 (k1_off10 i) (k1_off10_inb i) >>= fun _ =>
        await i x b1 h1 s1 (k1_off2 i 10#32) (k1_off2_inb i 1) >>= fun _ => pure ⟨⟩) :=
  ⟨_, rfl, rfl⟩

/-- The printed body is the folded text. -/
theorem body_eq :
    cc1__mc_pool_sc (F := F) i x hx o ho b0 h0 b1 h1 ob hob s0 s1 r0 r1 r2 = body i x o b0 h0 b1 h1 ob hob s0 s1 r0 r1 r2 := by
  obtain ⟨f, h, hf⟩ := body_cut (F := F) i x hx o ho b0 h0 b1 h1 ob hob s0 s1 r0 r1 r2
  rw [h, part54_eq]
  simp only [part35_eq, part36_eq, bind_assoc, pure_bind, hf, body, pairStep]

end Cert.Proof.Sc
end
-- ==== Proof.ScTile.lean ====
/-
  What the SparseCore call's handshakes carry, and a tile's task from them: two read shares of the argument, and the
  places of the result that are the tile's.
-/
module

public import proofs.«01_k».proof.Proof.ScBody
public import proofs.«01_k».proof.Proof.ScTextEq

@[expose] public section

noncomputable section

namespace Cert.Proof.Sc

open Idealize.ShloMosaic Idealize.SL Idealize.SL.RA Idealize.SL.BI Idealize.SL.Sem
open Idealize.ShloMosaic.SparseCore (S V T)
open Idealize.ShloMosaic.SparseCore.Cfg (HIx Pay)
open Idealize.ShloMosaic.SparseCore.Cfg
open scoped Idealize.SL.BI
open Idealize.SL.BI.BIBase Idealize.SL.BI.Laws Idealize.SL.ProofMode
open Cert.KernelIdeal Cert.KernelIdeal.Gen
open Idealize.ShloMosaic.Tactic

variable {F : FTy → Type} [FloatOps F]

local notation "𝕄" => MM F

abbrev xLoc (d : Dev nD) : Loc nD τ sig := (SparseCore.T d).loc main_v0
abbrev oLoc (d : Dev nD) : Loc nD τ sig := (SparseCore.T d).loc main_v23

/-- The tile a place of the result belongs to, counted over both SparseCores. -/
def owner (z : S88x192x192.Idx) : Nat := ((z 0).val * 4 + (z 1).val / 48) / 11
/-- A tile's places, and a SparseCore's. -/
def tilePlaces (w : Nat) : Finset S88x192x192.Idx := Finset.univ.filter fun z => owner z = w
def corePlaces (c : Nat) : Finset S88x192x192.Idx := Finset.univ.filter fun z => owner z % 2 = c

/-- A SparseCore's share of the argument, and a tile's. -/
def coreShare (c : Nat) : PosShare TreeShare := if c = 0 then fullShare.left else fullShare.right
def tileShare (c i : Nat) : PosShare TreeShare := Transfers.shareTokN (coreShare c) i

variable (X : (d : Dev nD) → Buf (Elt F) (xLoc d))

/-- The result's array computed. -/
def done (d : Dev nD) : Buf (Elt F) (oLoc d) := scOut (X d)

def forTile (d : Dev nD) (c i : Nat) : sProp 𝕄 := iprop((xLoc d ↦{tileShare c i} X d) ∗ ∃ f, oLoc d ↦[tilePlaces (i * 2 + c)]{fullShare} f)
def fromTile (d : Dev nD) (c i : Nat) : sProp 𝕄 := iprop((xLoc d ↦{tileShare c i} X d) ∗ (oLoc d ↦[tilePlaces (i * 2 + c)]{fullShare} done X d))
def forCore (d : Dev nD) (c : Nat) : sProp 𝕄 := iprop((xLoc d ↦{coreShare c} X d) ∗ ∃ f, oLoc d ↦[corePlaces c]{fullShare} f)
def fromCore (d : Dev nD) (c : Nat) : sProp 𝕄 := iprop((xLoc d ↦{coreShare c} X d) ∗ (oLoc d ↦[corePlaces c]{fullShare} done X d))

instance (d : Dev nD) (c i : Nat) : BI.Storable (upEmb : UEmb _ 𝕄) (forTile X d c i) := by unfold forTile; infer_instance
instance (d : Dev nD) (c i : Nat) : BI.Storable (upEmb : UEmb _ 𝕄) (fromTile X d c i) := by unfold fromTile; infer_instance
instance (d : Dev nD) (c : Nat) : BI.Storable (upEmb : UEmb _ 𝕄) (forCore X d c) := by unfold forCore; infer_instance
instance (d : Dev nD) (c : Nat) : BI.Storable (upEmb : UEmb _ 𝕄) (fromCore X d c) := by unfold fromCore; infer_instance

/-- What the handshakes carry. -/
def P : (K (F := F)).Pay (nD := nD) (Val := Elt F) (Name := ℕ) (U := UU) where
  st := fun _ d c => forCore X d c.val
  dn := fun _ d c => fromCore X d c.val
  go := fun _ d c i => forTile X d c.val i.val
  td := fun _ d c i => fromTile X d c.val i.val
  x := fun _ _ => iprop(emp)

instance P_storable : (P (F := F) X).IsStorable where
  st _ d c := by unfold P; infer_instance
  dn _ d c := by unfold P; infer_instance
  go _ d c i := by unfold P; infer_instance
  td _ d c i := by unfold P; infer_instance

section Tile

variable (d : Dev nD) (i : grid1.Coords)

abbrev cell_ (s : DmaSems sig S_) : GSem nD τ sig := (tileOf d i, .dma s.sem)

theorem cell_mem (s : DmaSems sig S_) (h : (SemLoc.dma s.sem : SemLoc sig).isScoped .scVector = true) : cell_ d i s ∈ ownCells (tileOf d i) :=
  (mem_ownCells (g := cell_ d i s)).mpr ⟨rfl, h⟩

theorem cell_ne {s t : DmaSems sig S_} (h : (SemLoc.dma s.sem : SemLoc sig) ≠ .dma t.sem) : cell_ d i s ≠ cell_ d i t := fun e => h (Prod.ext_iff.mp e).2

/-- The tile's semaphores, apart from those the kernel does not name. -/
theorem ownSems0_tile :
    (ownSems0 (tileOf d i) : sProp 𝕄)
      = iprop(semVal (cell_ d i cc1_scratch3) 0 ∗ semVal (cell_ d i cc1_scratch4) 0 ∗ semVal (cell_ d i cc1_scoped0) 0
          ∗ semVal (cell_ d i cc1_scoped1) 0 ∗ semVal (cell_ d i cc1_scoped2) 0
          ∗ bigSep ((((((ownCells (tileOf d i)).erase (cell_ d i cc1_scratch3)).erase (cell_ d i cc1_scratch4)).erase (cell_ d i cc1_scoped0)).erase
              (cell_ d i cc1_scoped1)).erase (cell_ d i cc1_scoped2)) fun g => semVal g 0) := by
  unfold SparseCore.Cfg.ownSems0
  rw [SparseCore.bigSep_erase' (cell_mem d i cc1_scratch3 (by decide)),
    SparseCore.bigSep_erase' (Finset.mem_erase.mpr ⟨cell_ne d i (by decide), cell_mem d i cc1_scratch4 (by decide)⟩),
    SparseCore.bigSep_erase' (Finset.mem_erase.mpr ⟨cell_ne d i (by decide), Finset.mem_erase.mpr ⟨cell_ne d i (by decide), cell_mem d i cc1_scoped0 (by decide)⟩⟩),
    SparseCore.bigSep_erase' (Finset.mem_erase.mpr ⟨cell_ne d i (by decide), Finset.mem_erase.mpr ⟨cell_ne d i (by decide), Finset.mem_erase.mpr ⟨cell_ne d i (by decide),
      cell_mem d i cc1_scoped1 (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_mem d i cc1_scoped2 (by decide)⟩⟩⟩⟩)]

abbrev bufRef (b : Ref sig .scVector) : DevRef τ sig := (Proc.scVector ((i 0).castLE hcore1) ((i 1).castLE hsub1)).devRef b

theorem bufRef_ne {a b : Ref sig .scVector} (h : a ≠ b) : bufRef i a ≠ bufRef i b := fun e => h (Proc.devRef_injective _ e)

/-- The tile's buffers, apart from those the kernel does not name. -/
theorem ownBufs_tile :
    (ownBufs (tileOf d i) : sProp 𝕄)
      = iprop((∃ f, (tileOf d i).loc cc1_scratch0 ↦{fullShare} f) ∗ (∃ f, (tileOf d i).loc cc1_scratch1 ↦{fullShare} f) ∗ (∃ f, (tileOf d i).loc cc1_scratch2 ↦{fullShare} f)
          ∗ bigSep ((((ownRefs (τ := τ) (.scVector ((i 0).castLE hcore1) ((i 1).castLE hsub1))).erase (bufRef i cc1_scratch0)).erase (bufRef i cc1_scratch1)).erase (bufRef i cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((i 0).castLE hcore1) ((i 1).castLE hsub1)) (b := bufRef i cc1_scratch0) rfl)).trans ?_
  rw [SparseCore.bigSep_erase' (Finset.mem_erase.mpr ⟨bufRef_ne i (a := cc1_scratch1) (by decide),
      SparseCore.Cfg.mem_ownRefs_of_owner (p := Proc.scVector ((i 0).castLE hcore1) ((i 1).castLE hsub1)) (b := bufRef i cc1_scratch1) rfl⟩),
    SparseCore.bigSep_erase' (Finset.mem_erase.mpr ⟨bufRef_ne i (a := cc1_scratch2) (by decide), Finset.mem_erase.mpr ⟨bufRef_ne i (a := cc1_scratch2) (by decide),
      SparseCore.Cfg.mem_ownRefs_of_owner (p := Proc.scVector ((i 0).castLE hcore1) ((i 1).castLE hsub1)) (b := bufRef i cc1_scratch2) rfl⟩⟩)]

theorem some_whole {sp : Space} {s : Shape} {e : EltTy} (m : Memref sig .scVector sp s e) (h : m.view.set = Finset.univ) :
    (iprop(∃ f, m.view.loc (tileOf d i) ↦{fullShare} f) : sProp 𝕄) ⊢ Some' (tileOf d i) m := by
  unfold Some' Has
  iintro ⟨%f, H⟩
  iexists _, f
  isplitr
  · ipureintro; rfl
  · rw [h]; iexact H

theorem whole_some {sp : Space} {s : Shape} {e : EltTy} (m : Memref sig .scVector sp s e) (h : m.view.set = Finset.univ) :
    (Some' (tileOf d i) m : sProp 𝕄) ⊢ iprop(∃ f, m.view.loc (tileOf d i) ↦{fullShare} f) := by
  unfold Some' Has
  rw [h]
  iintro ⟨%B, %f, -, H⟩
  iexists f; iexact H

/-- The result's array as a tile addresses it; a unit's places are the tile's. -/
abbrev oW : Memref sig .scVector .hbm S88x192x192 .f32 := Memref.whole main_v23_scv
abbrev xW : Memref sig .scVector .hbm S384x384x384 .f32 := Memref.whole main_v0_scv

theorem owner_of_bounds (w m a b : Nat) (hm : m < 11) (h0 : (w * 11 + m) / 4 ≤ a) (h1 : a < (w * 11 + m) / 4 + 1)
    (h2 : (w * 11 + m) % 4 * 48 ≤ b) (h3 : b < (w * 11 + m) % 4 * 48 + 48) : (a * 4 + b / 48) / 11 = w := by
  omega

theorem unit_of_owner (w a b : Nat) (hb : b < 192) (h : (a * 4 + b / 48) / 11 = w) :
    ∃ m < 11, a = (w * 11 + m) / 4 ∧ (w * 11 + m) % 4 * 48 ≤ b ∧ b < (w * 11 + m) % 4 * 48 + 48 := by
  refine ⟨a * 4 + b / 48 - w * 11, ?_, ?_, ?_, ?_⟩ <;> omega

theorem oPart_places (off : Fin 3 → Nat) (h) (hm : ∃ m < 11, off = oOff (unit0 i + m)) : (oPart oW off h).view.set ⊆ tilePlaces ((i 1).val * 2 + (i 0).val) := by
  obtain ⟨m, hm, rfl⟩ := hm
  intro z hz
  have hz' : z ∈ (Rect.unit (s := S88x192x192) (oOff (unit0 i + m)) S1x48x192.size h).set := by
    have e : (oPart oW (oOff (unit0 i + m)) h).view.set = ((View.whole (main_v23_scv : Ref sig .scVector)).slice (Rect.unit (s := S88x192x192) (oOff (unit0 i + m)) S1x48x192.size h)).set :=
      View.set_reshape _ _
    rw [e, View.set_slice] at hz
    obtain ⟨y, hy, rfl⟩ := Finset.mem_map.mp hz
    exact hy
  rw [Rect.mem_set_unit] at hz'
  have g0 := hz' 0
  have g1 := hz' 1
  unfold tilePlaces
  refine Finset.mem_filter.mpr ⟨Finset.mem_univ _, ?_⟩
  unfold owner
  have g0' : (unit0 i + m) / 4 ≤ (z 0).val ∧ (z 0).val < (unit0 i + m) / 4 + 1 := g0
  have g1' : (unit0 i + m) % 4 * 48 ≤ (z 1).val ∧ (z 1).val < (unit0 i + m) % 4 * 48 + 48 := g1
  exact owner_of_bounds _ m _ _ hm g0'.1 g0'.2 g1'.1 g1'.2

theorem owned_unit (z : S88x192x192.Idx) (hz : z ∈ tilePlaces ((i 1).val * 2 + (i 0).val)) : ∃ m < 11, InUnit (unit0 i + m) z := by
  have h := (Finset.mem_filter.mp hz).2
  have h1 : (z 1).val < 192 := (z 1).isLt
  unfold owner at h
  exact unit_of_owner _ _ _ h1 h

variable (O : CellTallies nD τ sig (HIx 1)) (W : Waits sig (HIx 1))

theorem tile_wp (hF : (K (F := F)).Facts) (hO : ∀ g, O g none = 0) :
    iprop(levAts (K (F := F)).L (K (F := F)).lev ∗ emp ∗ forTile X d (i 0).val (i 1).val
        ∗ scopedBufs (tileOf d i) ∗ scopedSems0 (tileOf d i) ∗ owes (tileOf d i) O W)
      ⊢ wp frame (wpE (defs₀ (F := F)) 𝒱₀ (tileOf d i) none) Set.univ
          (cc1__mc_pool_sc i xW (Memref.isWhole_whole _) oW (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scoped0 cc1_scoped1 cc1_scoped2)
          fun _ => iprop(fromTile X d (i 0).val (i 1).val ∗ scopedBufs (tileOf d i) ∗ scopedSems0 (tileOf d i)
            ∗ ∃ W', ⌜∀ p ∈ W', p ∈ W ∨ p.2 = none⌝ ∗ owes (tileOf d i) O W') := by
  rw [body_eq]
  rw [(K (F := F)).scopedBufs_V hF d ((i 0).castLE hcore1) ((i 1).castLE hsub1), SparseCore.Cfg.scopedSems0_V (Val := Elt F) d ((i 0).castLE hcore1) ((i 1).castLE hsub1)]
  rw [show V d ((i 0).castLE hcore1) ((i 1).castLE hsub1) = tileOf d i from rfl, ownSems0_tile, ownBufs_tile]
  unfold forTile fromTile
  have hx : ∀ q, (xW.view.loc (tileOf d i) ↦[xW.view.set]{q} X d : sProp 𝕄) = xLoc d ↦{q} X d := fun q => by
    simp only [Memref.view_whole, View.set_whole]
  iintro ⟨#Hlv, -, ⟨Hx, %fo, Ho⟩, ⟨Hb0, Hb1, Hob, Hbufs⟩, ⟨Hs0, Hs1, Hr0, Hr1, Hr2, Hsems⟩, HO⟩
  ihave Hmw := (show levAts (K (F := F)).L (K (F := F)).lev ⊢ Transfers.MayWaits (tileOf d i) (default : HIx 1) O from
    (K (F := F)).mayWaits_none (thr := tileOf d i) hO) $$ Hlv
  ihave Hx := (pointsTo_share (PosShare.mem_left_op_right (tileShare (i 0).val (i 1).val))).1 $$ Hx
  icases Hx with ⟨Hx0, Hx1⟩
  iapply (wp_wand _ _ _) $$ [Hx0 Hx1 Ho Hb0 Hb1 Hob Hs0 Hs1 Hr0 Hr1 Hr2 HO Hmw]
  · iapply (body_wp d i xW (X d) (tileShare (i 0).val (i 1).val).left (tileShare (i 0).val (i 1).val).right oW (tilePlaces ((i 1).val * 2 + (i 0).val))
      (Memref.whole cc1_scratch0) (Memref.isWhole_whole _) (Memref.whole cc1_scratch1) (Memref.isWhole_whole _) (Memref.whole cc1_scratch2) (Memref.isWhole_whole _)
      cc1_scratch3 cc1_scratch4 cc1_scoped0 cc1_scoped1 cc1_scoped2 O W (oPart_places i))
    isplitl [Hx0]; · iapply (Entails.of_eq (hx _).symm); iexact Hx0
    isplitl [Hx1]; · iapply (Entails.of_eq (hx _).symm); iexact Hx1
    isplitl [Hb0]; · iapply (some_whole d i (Memref.whole cc1_scratch0) (View.set_whole _)); iexact Hb0
    isplitl [Hb1]; · iapply (some_whole d i (Memref.whole cc1_scratch1) (View.set_whole _)); iexact Hb1
    isplitl [Hob]; · iapply (some_whole d i (Memref.whole cc1_scratch2) (View.set_whole _)); iexact Hob
    isplitl [Ho]; · iexists fo; iexact Ho
    isplitl [Hs0]; · iexact Hs0
    isplitl [Hs1]; · iexact Hs1
    isplitl [Hr0]; · iexact Hr0
    isplitl [Hr1]; · iexact Hr1
    isplitl [Hr2]; · iexact Hr2
    isplitl [HO]
    · unfold Owing
      iexists W; isplitr
      · ipureintro; exact fun p hp => .inl hp
      · iexact HO
    · iexact Hmw
  iintro %_ ⟨Hx0, Hx1, Hb0, Hb1, Hob, Ho, Hs0, Hs1, Hr0, Hr1, Hr2, HO⟩
  ihave Hx0 := (Entails.of_eq (hx _)) $$ Hx0
  ihave Hx1 := (Entails.of_eq (hx _)) $$ Hx1
  isplitl [Hx0 Hx1 Ho]
  · isplitl [Hx0 Hx1]
    · iapply (pointsTo_share (PosShare.mem_left_op_right (tileShare (i 0).val (i 1).val))).2
      isplitl [Hx0] <;> iassumption
    · unfold OutUpto
      icases Ho with ⟨%g, %hg, Ho⟩
      iapply (Entails.of_eq (show (oLoc d ↦[tilePlaces ((i 1).val * 2 + (i 0).val)]{fullShare} g : sProp 𝕄)
          = oLoc d ↦[tilePlaces ((i 1).val * 2 + (i 0).val)]{fullShare} done X d from pointsTo_congr fun z hz => by
            obtain ⟨m, hm, hu⟩ := owned_unit i z hz
            exact hg m hm z hu))
      iexact Ho
  isplitl [Hb0 Hb1 Hob Hbufs]
  · isplitl [Hb0]; · iapply (whole_some d i (Memref.whole cc1_scratch0) (View.set_whole _)); iexact Hb0
    isplitl [Hb1]; · iapply (whole_some d i (Memref.whole cc1_scratch1) (View.set_whole _)); iexact Hb1
    isplitl [Hob]; · iapply (whole_some d i (Memref.whole cc1_scratch2) (View.set_whole _)); iexact Hob
    iexact Hbufs
  isplitl [Hs0 Hs1 Hr0 Hr1 Hr2 Hsems]
  · isplitl [Hs0]; · iexact Hs0
    isplitl [Hs1]; · iexact Hs1
    isplitl [Hr0]; · iexact Hr0
    isplitl [Hr1]; · iexact Hr1
    isplitl [Hr2] <;> iassumption
  unfold Owing
  iexact HO

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__mc_pool_sc (coordsV c s) xW (Memref.isWhole_whole _) oW (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scoped0 cc1_scoped1 cc1_scoped2) ⟨⟩ c s := rfl

/-- The waits a tile records are the ones its task may. -/
theorem recorded_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right Or.inl
  · iexact HO

set_option maxRecDepth 16384 in
theorem tileObl (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_wp X d (coordsV ⟨_, hci.1⟩ ⟨_, hci.2⟩) O W hF hO).trans (wp_mono frame _ _ fun _ => recorded_weaken)

end Cert.Proof.Sc
end
-- ==== Proof.ScSplit.lean ====
/-
  The argument's shares and the result's places dealt to the SparseCores and their tiles, and gathered back.
-/
module

public import proofs.«01_k».proof.Proof.ScTile

@[expose] public section

noncomputable section

namespace Cert.Proof.Sc

open Idealize.ShloMosaic Idealize.SL Idealize.SL.RA Idealize.SL.BI Idealize.SL.Sem
open Idealize.ShloMosaic.SparseCore (S V T)
open Idealize.ShloMosaic.SparseCore.Cfg (HIx Pay)
open Idealize.ShloMosaic.SparseCore.Cfg
open scoped Idealize.SL.BI
open Idealize.SL.BI.BIBase Idealize.SL.BI.Laws Idealize.SL.ProofMode
open Cert.KernelIdeal Cert.KernelIdeal.Gen
open Idealize.ShloMosaic.Tactic

variable {F : FTy → Type} [FloatOps F]

local notation "𝕄" => MM F

variable (X : (d : Dev nD) → Buf (Elt F) (xLoc d)) (d : Dev nD)

theorem owner_lt (z : S88x192x192.Idx) : owner z < 32 := by
  have h0 : (z 0).val < 88 := (z 0).isLt
  have h1 : (z 1).val < 192 := (z 1).isLt
  unfold owner
  omega

theorem tiles_disjoint (c : Nat) : ∀ i ∈ (Finset.univ : Finset (Fin 16)), ∀ j ∈ (Finset.univ : Finset (Fin 16)), i ≠ j →
    Disjoint (tilePlaces (i.val * 2 + c)) (tilePlaces (j.val * 2 + c)) := by
  intro i _ j _ h
  refine Finset.disjoint_left.mpr fun z h1 h2 => h (Fin.ext ?_)
  have h1 := (Finset.mem_filter.mp h1).2
  have h2 := (Finset.mem_filter.mp h2).2
  omega

theorem tiles_cover {c : Nat} (hc : c < 2) : (Finset.univ : Finset (Fin 16)).biUnion (fun i => tilePlaces (i.val * 2 + c)) = corePlaces c := by
  ext z
  have hz := owner_lt z
  simp only [Finset.mem_biUnion, Finset.mem_univ, true_and, tilePlaces, corePlaces, Finset.mem_filter]
  constructor
  · rintro ⟨i, h⟩; omega
  · intro h; exact ⟨⟨owner z / 2, by omega⟩, by show owner z = owner z / 2 * 2 + c; omega⟩

theorem cores_disjoint : ∀ i ∈ (Finset.univ : Finset (Fin 2)), ∀ j ∈ (Finset.univ : Finset (Fin 2)), i ≠ j → Disjoint (corePlaces i.val) (corePlaces j.val) := by
  intro i _ j _ h
  refine Finset.disjoint_left.mpr fun z h1 h2 => h (Fin.ext ?_)
  exact (Finset.mem_filter.mp h1).2.symm.trans (Finset.mem_filter.mp h2).2

theorem cores_cover : (Finset.univ : Finset (Fin 2)).biUnion (fun c => corePlaces c.val) = Finset.univ := by
  ext z
  simp only [Finset.mem_biUnion, Finset.mem_univ, true_and, corePlaces, Finset.mem_filter, iff_true]
  exact ⟨⟨owner z % 2, Nat.mod_lt _ (by decide)⟩, rfl⟩

theorem core_places (f : Buf (Elt F) (oLoc d)) {c : Nat} (hc : c < 2) :
    (oLoc d ↦[corePlaces c]{fullShare} f : sProp 𝕄) = bigSep Finset.univ fun i : Fin 16 => oLoc d ↦[tilePlaces (i.val * 2 + c)]{fullShare} f := by
  rw [← tiles_cover hc]
  exact pointsTo_biUnion Finset.univ (ℓ := oLoc d) (fun i : Fin 16 => tilePlaces (i.val * 2 + c)) (tiles_disjoint c)

theorem all_places (f : Buf (Elt F) (oLoc d)) :
    (oLoc d ↦{fullShare} f : sProp 𝕄) = bigSep Finset.univ fun c : Fin 2 => oLoc d ↦[corePlaces c.val]{fullShare} f := by
  rw [← pointsTo_biUnion Finset.univ (ℓ := oLoc d) (fun c : Fin 2 => corePlaces c.val) cores_disjoint, cores_cover]

theorem some_places (I : Finset S88x192x192.Idx) (f : Buf (Elt F) (oLoc d)) :
    (oLoc d ↦[I]{fullShare} f : sProp 𝕄) ⊢ iprop(∃ f, oLoc d ↦[I]{fullShare} f) := by
  iintro H; iexists f; iexact H

theorem vecSplit : (K (F := F)).VecSplit' (P X) 0 := by
  intro d c
  have hc : c.val < 2 := c.isLt
  show forCore X d c.val ⊢ |={Set.univ}=> iprop((bigSep Finset.univ fun i : Fin 16 => forTile X d c.val i.val)
    ∗ ((bigSep Finset.univ fun i : Fin 16 => fromTile X d c.val i.val) -∗ fromCore X d c.val))
  unfold forCore fromCore forTile fromTile
  rw [bigSep_sep', bigSep_sep', core_places d (done X d) hc]
  iintro ⟨Hx, %f, Ho⟩
  have hsome : (bigSep Finset.univ fun i : Fin 16 => (oLoc d ↦[tilePlaces (i.val * 2 + c.val)]{fullShare} f : sProp 𝕄))
      ⊢ bigSep Finset.univ fun i : Fin 16 => iprop(∃ f, oLoc d ↦[tilePlaces (i.val * 2 + c.val)]{fullShare} f) :=
    bigSep_mono fun i _ => some_places d _ f
  ihave Hx := (Transfers.pointsTo_toks_split (coreShare c.val) 16) $$ Hx
  icases Hx with ⟨Hd, Hx⟩
  ihave Ho := (Entails.of_eq (core_places d f hc)) $$ Ho
  imodintro
  isplitl [Hx Ho]
  · isplitl [Hx]; · iexact Hx
    iapply hsome $$ Ho
  iintro ⟨Hx, Ho⟩
  isplitl [Hd Hx]
  · iapply (Transfers.pointsTo_toks_join (coreShare c.val) 16)
    isplitl [Hd]; · iexact Hd
    iexact Hx
  · iexact Ho

/-- The call takes the argument and the result's array whole, and hands them back, the result computed. -/
theorem deal (f : Buf (Elt F) (oLoc d)) :
    iprop((xLoc d ↦{fullShare} X d) ∗ (oLoc d ↦{fullShare} f)) ⊢ (bigSep Finset.univ fun c : Fin ((K (F := F)).nCore 0) => (P X).st 0 d c : sProp 𝕄) := by
  show _ ⊢ bigSep (Finset.univ : Finset (Fin 2)) fun c => forCore X d c.val
  rw [all_places d f, show (Finset.univ : Finset (Fin 2)) = {0, 1} by decide, SparseCore.bigSep_insert' (by decide), bigSep_singleton,
    SparseCore.bigSep_insert' (by decide), bigSep_singleton]
  unfold forCore coreShare
  iintro ⟨Hx, Ho0, Ho1⟩
  ihave Hx := (pointsTo_share (PosShare.mem_left_op_right fullShare)).1 $$ Hx
  icases Hx with ⟨Hx0, Hx1⟩
  isplitl [Hx0 Ho0]
  · isplitl [Hx0]; · iexact Hx0
    iexists f; iexact Ho0
  · isplitl [Hx1]; · iexact Hx1
    iexists f; iexact Ho1

theorem gather :
    (bigSep Finset.univ fun c : Fin ((K (F := F)).nCore 0) => (P X).dn 0 d c : sProp 𝕄) ⊢ iprop((xLoc d ↦{fullShare} X d) ∗ (oLoc d ↦{fullShare} done X d)) := by
  show (bigSep (Finset.univ : Finset (Fin 2)) fun c => fromCore X d c.val) ⊢ _
  rw [all_places d (done X d), show (Finset.univ : Finset (Fin 2)) = {0, 1} by decide, SparseCore.bigSep_insert' (by decide), bigSep_singleton,
    SparseCore.bigSep_insert' (by decide), bigSep_singleton]
  unfold fromCore coreShare
  iintro ⟨⟨Hx0, Ho0⟩, Hx1, Ho1⟩
  isplitl [Hx0 Hx1]
  · iapply (pointsTo_share (PosShare.mem_left_op_right fullShare)).2
    isplitl [Hx0]; · iexact Hx0
    iexact Hx1
  · isplitl [Ho0] <;> iassumption

end Cert.Proof.Sc
end
-- ==== Proof.TcText.lean ====
/-
  The TensorCore kernel's text, folded: the two loads, the indices of the first largest score at every place, and the
  eight planes written through the two selection products.  The printed body IS this text (`tc_eq`).
-/
module

public import proofs.«01_k».proof.KernelIdeal
public import proofs.«01_k».proof.Proof.Gen.KernelIdeal
public import proofs.«01_k».proof.Proof.Hash

@[expose] public section

noncomputable section

namespace Cert.Proof.Tc

open Idealize.ShloMosaic Idealize.SL.Sem
open Cert.KernelIdeal Cert.KernelIdeal.Gen

variable {F : FTy → Type} [FloatOps F]

/-- The first counter of a block of eight channels, less the table's. -/
def base (i : grid0.Coords) : BitVec 32 := Scalar.muli (Scalar.muli (BitVec.ofNat 32 (i 0).val) 8#32) 147456#32

/-- The scores of a block: each element under its counter. -/
def scores (i : grid0.Coords) (v : FVec F S8x384x384 .f32) (fb : IVec S8x384x384 32) : FVec F S8x384x384 .f32 :=
  fun z => score (v z) (IntOp.addi (fb z) (base i))

/-- One place back along the rows, along the columns. -/
def down (s : FVec F S8x384x384 .f32) : FVec F S8x384x384 .f32 := dynamicRotate 1 383#32 none s rotates_S8x384x384_d1
def right (s : FVec F S8x384x384 .f32) : FVec F S8x384x384 .f32 := dynamicRotate 2 383#32 none s rotates_S8x384x384_d2

/-- At every place the index of the first largest among it and its three neighbours. -/
def picked (s : FVec F S8x384x384 .f32) : FVec F S8x384x384 .f32 :=
  fun z => pick (s z) (right s z) (down s z) (right (down s) z)

/-- The two selections of every other column and row, as matrices of zeros and ones. -/
def colSel : FVec F S384x192 .f32 :=
  sitofp .f32 (extui 32 (cmpi .eq (iota .tc S384x192 32 [0] iota_S384x192_d0_w32)
    (muli (iota .tc S384x192 32 [1] iota_S384x192_d1_w32) (broadcast S384x192 2#32))) natLt_1_32)
def rowSel : FVec F S192x384 .f32 :=
  sitofp .f32 (extui 32 (cmpi .eq (iota .tc S192x384 32 [1] iota_S192x384_d1_w32)
    (muli (iota .tc S192x384 32 [0] iota_S192x384_d0_w32) (broadcast S192x384 2#32))) natLt_1_32)

/-- A plane through the two selections. -/
def thin (w : FVec F S384x384 .f32) : FVec F S192x192 .f32 :=
  matmul dot_S192x384_S384x192_S192x192_1_0_0_1_n_n none rowSel
    (matmul dot_S384x384_S384x192_S384x192_1_0_0_1_n_n none w colSel (constant S384x192 .f32 0x00000000#32)) (constant S192x192 .f32 0x00000000#32)

/-- The plane of a block at an offset. -/
def plane (w : FVec F S8x384x384 .f32) (off : Fin 3 → Nat) (h : S8x384x384.Slices off S1x384x384) : FVec F S384x384 .f32 :=
  shapeCast S384x384 (extractStridedSlice S1x384x384 off w h) shapeCasts_S1x384x384_S384x384

/-- One plane written. -/
def put (o : Memref sig .tc .vmem S8x192x192 .f32) (w : FVec F S8x384x384 .f32) (off : Fin 3 → Nat) (h : S8x384x384.Slices off S1x384x384)
    (hoff : ∀ a, off a + S1x192x192.size a ≤ S8x192x192.size a) : Prog (TpuEff nD τ sig (Elt F) Λ₀ .tc) PUnit := do
  let _ ← Prog.lift (.load o (Rect.unit (s := S8x192x192) off S1x192x192.size hoff).toLoadRect (View.loadsAt_vmem h_S1x192x192))
  Prog.lift (.store o (Rect.unit (s := S8x192x192) off S1x192x192.size hoff)
    (shapeCast S1x192x192 (thin (plane w off h)) shapeCasts_S192x192_S1x192x192) Finset.univ (View.stores_vmem_bits_univ h_S1x192x192 rfl) (.inl rfl))

/-- The body. -/
def text (i : grid0.Coords) (x : Memref sig .tc .vmem S8x384x384 .f32) (f : Memref sig .tc .vmem S8x384x384 .i32) (o : Memref sig .tc .vmem S8x192x192 .f32) :
    Prog (TpuEff nD τ sig (Elt F) Λ₀ .tc) PUnit := do
  let v ← Prog.lift (.load x (Rect.unit (s := S8x384x384) ![0, 0, 0] S8x384x384.size inb_S8x384x384_S8x384x384_0_0_0).toLoadRect (View.loadsAt_vmem h_S8x384x384))
  let fb ← Prog.lift (.load f (Rect.unit (s := S8x384x384) ![0, 0, 0] S8x384x384.size inb_S8x384x384_S8x384x384_0_0_0).toLoadRect (View.loadsAt_vmem h_S8x384x384))
  let w := picked (scores i (shapeCast S8x384x384 v shapeCasts_S8x384x384_S8x384x384) (shapeCast S8x384x384 fb shapeCasts_S8x384x384_S8x384x384))
  put o w ![0, 0, 0] slices_S8x384x384_o0_0_0_S1x384x384 inb_S8x192x192_S1x192x192_0_0_0
  put o w ![1, 0, 0] slices_S8x384x384_o1_0_0_S1x384x384 inb_S8x192x192_S1x192x192_1_0_0
  put o w ![2, 0, 0] slices_S8x384x384_o2_0_0_S1x384x384 inb_S8x192x192_S1x192x192_2_0_0
  put o w ![3, 0, 0] slices_S8x384x384_o3_0_0_S1x384x384 inb_S8x192x192_S1x192x192_3_0_0
  put o w ![4, 0, 0] slices_S8x384x384_o4_0_0_S1x384x384 inb_S8x192x192_S1x192x192_4_0_0
  put o w ![5, 0, 0] slices_S8x384x384_o5_0_0_S1x384x384 inb_S8x192x192_S1x192x192_5_0_0
  put o w ![6, 0, 0] slices_S8x384x384_o6_0_0_S1x384x384 inb_S8x192x192_S1x192x192_6_0_0
  put o w ![7, 0, 0] slices_S8x384x384_o7_0_0_S1x384x384 inb_S8x192x192_S1x192x192_7_0_0
  pure ⟨⟩

set_option maxRecDepth 65536 in
set_option maxHeartbeats 40000000 in
/-- The printed body is the folded text. -/
theorem tc_eq (i : grid0.Coords) (x : Memref sig .tc .vmem S8x384x384 .f32) (hx : x.IsWhole) (f : Memref sig .tc .vmem S8x384x384 .i32) (hf : f.IsWhole)
    (o : Memref sig .tc .vmem S8x192x192 .f32) (ho : o.IsWhole) :
    cc0__mc_pool_tc (F := F) i x hx f hf o ho = text i x f o := rfl

end Cert.Proof.Tc
end
-- ==== Proof.TcRun.lean ====
/-
  The TensorCore kernel's run at a grid point: the block of indices it leaves, from its two blocks.
-/
module

public import proofs.«01_k».proof.Proof.Base
public import proofs.«01_k».proof.Proof.TcText
public import Idealize.ShloMosaic.Lib.VecWindow
public import Idealize.ShloMosaic.Lib.Pipeline.Value
public import Idealize.ShloMosaic.Lib.Pointwise.Index

@[expose] public section

noncomputable section

namespace Cert.Proof.Tc

open Idealize.ShloMosaic Idealize.SL Idealize.SL.RA Idealize.SL.BI Idealize.SL.Sem
open Idealize.ShloMosaic.SparseCore.Cfg (HIx Pay)
open scoped Idealize.SL.BI
open Idealize.SL.BI.BIBase Idealize.SL.BI.Laws Idealize.SL.ProofMode
open Cert.KernelIdeal Cert.KernelIdeal.Gen
open Idealize.ShloMosaic.Tactic Idealize.ShloMosaic.TcCoe

variable {F : FTy → Type} [FloatOps F]

local notation "𝕄" => MM F

/-- Plane `b` of a block. -/
def planeAt (w : FVec F S8x384x384 .f32) (b : Fin 8) : FVec F S384x384 .f32 := fun y => w (ix3 b (y 0) (y 1))

/-- Every plane thinned: what the block of eight planes ends as. -/
def thinned (w : FVec F S8x384x384 .f32) : Vec F S8x192x192 .f32 := fun z => thin (planeAt w (z 0)) (ix2 (z 1) (z 2))

/-- The block of indices at a grid point. -/
def outBlock (i : grid0.Coords) (v : Vec F S8x384x384 .f32) (fb : Vec F S8x384x384 .i32) : Vec F S8x192x192 .f32 :=
  thinned (picked (scores i v fb))

theorem plane_eq (w : FVec F S8x384x384 .f32) (b : Fin 8) (h : S8x384x384.Slices ![b.val, 0, 0] S1x384x384) : plane w ![b.val, 0, 0] h = planeAt w b := by
  funext y
  unfold plane
  refine (shapeCast_dropUnit_apply _ _ _ y).trans ?_
  unfold extractStridedSlice planeAt
  congr 1
  funext a
  match a with
  | 0 => exact Fin.ext rfl
  | 1 => exact Fin.ext (Nat.zero_add _)
  | 2 => exact Fin.ext (Nat.zero_add _)

/-- The first `k` planes are in the buffer. -/
def Planes (w : FVec F S8x384x384 .f32) (k : Nat) (R : Vec F S8x192x192 .f32) : Prop := ∀ z : S8x192x192.Idx, (z 0).val < k → R z = thinned w z

def HasPlanes (c : Dev nD) (o : Memref sig .tc .vmem S8x192x192 .f32) (w : FVec F S8x384x384 .f32) (k : Nat) : sProp 𝕄 :=
  iprop(∃ g, ⌜Planes w k (o.view.read (Elt F) g)⌝ ∗ (o.view.loc (c : Thread nD τ) ↦[o.view.set]{fullShare} g))

theorem planes_step {κ : Kind} {sp : Space} (v : View sig κ sp S8x192x192 .f32) (w : FVec F S8x384x384 .f32) (b : Fin 8)
    (h : S8x384x384.Slices ![b.val, 0, 0] S1x384x384) (hoff : ∀ a, (![b.val, 0, 0] : Fin 3 → Nat) a + S1x192x192.size a ≤ S8x192x192.size a)
    (g : v.ty.Contents (Elt F)) (hg : Planes w b.val (v.read (Elt F) g)) :
    Planes w (b.val + 1) (v.read (Elt F) (v.writes (Elt F) g [⟨Rect.unit (s := S8x192x192) ![b.val, 0, 0] S1x192x192.size hoff,
      shapeCast S1x192x192 (thin (plane w ![b.val, 0, 0] h)) shapeCasts_S192x192_S1x192x192⟩])) := by
  intro z hz
  by_cases hb : (z 0).val < b.val
  · exact (View.read_writes_cons_miss_of_axis v g _ [] z 0 b.val 1 rfl rfl rfl (.inl hb)).trans (hg z hb)
  · have e : (z 0).val = b.val := by omega
    refine (View.read_writes_cons_hit_of_coords v g _ _ [] (ix3 (0 : Fin 1) (z 1 : Fin 192) (z 2 : Fin 192)) z ?_).trans ?_
    · intro a
      match a with
      | 0 => show (z 0).val = b.val + 1 * 0; omega
      | 1 => show (z 1).val = 0 + 1 * (z 1).val; omega
      | 2 => show (z 2).val = 0 + 1 * (z 2).val; omega
    · refine (shapeCast_addUnit_apply _ _ _ _).trans ?_
      rw [plane_eq]
      unfold thinned
      rw [show z 0 = b from Fin.ext e]
      congr 1
      funext a
      match a with
      | 0 => rfl
      | 1 => rfl

variable (c : Dev nD)

theorem put_wp (o : Memref sig .tc .vmem S8x192x192 .f32) (w : FVec F S8x384x384 .f32) (b : Fin 8) (h : S8x384x384.Slices ![b.val, 0, 0] S1x384x384)
    (hoff : ∀ a, (![b.val, 0, 0] : Fin 3 → Nat) a + S1x192x192.size a ≤ S8x192x192.size a) :
    HasPlanes c o w b.val ⊢ wp frame (wpE (defs₀ (F := F)) 𝒱₀ (c : Thread nD τ) none) Set.univ (put o w ![b.val, 0, 0] h hoff)
      fun _ => HasPlanes c o w (b.val + 1) := by
  conv_lhs => unfold HasPlanes
  iintro ⟨%g, %hg, Ho⟩
  unfold put
  simp only [Prog.lift, Prog.bind_op, Prog.bind_ret]
  iapply (wp_load 𝒱₀ (c : Thread nD τ) none Set.univ (m := o) (S := o.view.set) (View.setOn_subset_set _ _)) $$ Ho
  iintro Ho
  iapply (wp_store_writes₀ 𝒱₀ (c : Thread nD τ) none Set.univ (m := o) (S := o.view.set) (o.view.set_slice_subset _)) $$ Ho
  iintro Ho
  rw [wp_ret]
  imodintro
  unfold HasPlanes
  iexists _; isplitr; swap
  · iexact Ho
  · ipureintro
    exact planes_step o.view w b h hoff g hg

theorem wp_ret' (Q : sProp 𝕄) : Q ⊢ wp frame (wpE (defs₀ (F := F)) 𝒱₀ (c : Thread nD τ) none) Set.univ (pure ⟨⟩ : Prog _ PUnit) fun _ => Q := by
  rw [Prog.pure_eq_ret, wp_ret]
  iintro H
  imodintro
  iexact H

theorem put_next (o : Memref sig .tc .vmem S8x192x192 .f32) (w : FVec F S8x384x384 .f32) (k : Nat) (hk : k < 8) (h : S8x384x384.Slices ![k, 0, 0] S1x384x384)
    (hoff : ∀ a, (![k, 0, 0] : Fin 3 → Nat) a + S1x192x192.size a ≤ S8x192x192.size a) :
    HasPlanes c o w k ⊢ wp frame (wpE (defs₀ (F := F)) 𝒱₀ (c : Thread nD τ) none) Set.univ (put o w ![k, 0, 0] h hoff)
      fun _ => HasPlanes c o w (k + 1) :=
  put_wp c o w ⟨k, hk⟩ h hoff

/-- The body's run. -/
theorem text_wp (i : grid0.Coords) (x : Memref sig .tc .vmem S8x384x384 .f32) (f : Memref sig .tc .vmem S8x384x384 .i32) (o : Memref sig .tc .vmem S8x192x192 .f32)
    (v : Vec F S8x384x384 .f32) (fb : Vec F S8x384x384 .i32) :
    iprop(owns (c : Thread nD τ) x fullShare v ∗ owns (c : Thread nD τ) f fullShare fb ∗ ∃ B, owns (c : Thread nD τ) o fullShare B)
      ⊢ wp frame (wpE (defs₀ (F := F)) 𝒱₀ (c : Thread nD τ) none) Set.univ (text i x f o)
        fun _ => (iprop(owns (c : Thread nD τ) x fullShare v ∗ owns (c : Thread nD τ) f fullShare fb ∗ owns (c : Thread nD τ) o fullShare (outBlock i v fb)) : sProp 𝕄) := by
  unfold owns
  iintro ⟨⟨%gx, %hx, Hx⟩, ⟨%gf, %hf, Hf⟩, %B, %go, -, Ho⟩
  unfold text
  simp only [Prog.lift, Prog.bind_op, Prog.bind_ret]
  iapply (wp_load 𝒱₀ (c : Thread nD τ) none Set.univ (m := x) (S := x.view.set) (View.setOn_subset_set _ _)) $$ Hx
  iintro Hx
  iapply (wp_load 𝒱₀ (c : Thread nD τ) none Set.univ (m := f) (S := f.view.set) (View.setOn_subset_set _ _)) $$ Hf
  iintro Hf
  rw [View.readAt_full, View.readAt_full, hx, hf, shapeCast_self, shapeCast_self]
  generalize hw : picked (scores i v fb) = w
  have hP : (o.view.loc (c : Thread nD τ) ↦[o.view.set]{fullShare} go : sProp 𝕄) ⊢ HasPlanes c o w 0 := by
    unfold HasPlanes
    iintro Ho
    iexists go; isplitr
    · ipureintro; intro z hz; omega
    · iexact Ho
  ihave Ho := hP $$ Ho
  iapply (wp_wand _ _ _ (Q := fun _ => HasPlanes c o w 8)) $$ [Ho]
  · simp only [wp_bind]
    iapply ((put_next c o w 0 (by decide) _ _).trans (wp_mono _ _ _ fun _ => (put_next c o w 1 (by decide) _ _).trans (wp_mono _ _ _ fun _ => (put_next c o w 2 (by decide) _ _).trans (wp_mono _ _ _ fun _ =>
      (put_next c o w 3 (by decide) _ _).trans (wp_mono _ _ _ fun _ => (put_next c o w 4 (by decide) _ _).trans (wp_mono _ _ _ fun _ => (put_next c o w 5 (by decide) _ _).trans (wp_mono _ _ _ fun _ =>
      (put_next c o w 6 (by decide) _ _).trans (wp_mono _ _ _ fun _ => (put_next c o w 7 (by decide) _ _).trans (wp_mono _ _ _ fun _ => (wp_ret' c _)))))))))) $$ Ho
  iintro %_ Ho
  isplitl [Hx]; · iexists gx; isplitr; swap; (· iexact Hx); ipureintro; exact hx
  isplitl [Hf]; · iexists gf; isplitr; swap; (· iexact Hf); ipureintro; exact hf
  unfold HasPlanes
  icases Ho with ⟨%g, %hg, Ho⟩
  iexists g; isplitr; swap
  · iexact Ho
  · ipureintro
    funext z
    rw [hg z (z 0).isLt, outBlock, hw]

end Cert.Proof.Tc
end
-- ==== Proof.TcRegion.lean ====
/-
  The TensorCore call as a region of @main: its proof data over whatever the arrays hold at entry, its body obligation
  at every grid point, and the region entered and left with the TensorCore's debt to the SparseCore call standing.
-/
module

public import proofs.«01_k».proof.Proof.TcRun
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Tc

open Idealize.ShloMosaic Idealize.SL Idealize.SL.RA Idealize.SL.BI Idealize.SL.Sem
open Idealize.ShloMosaic.SparseCore (S V T)
open Idealize.ShloMosaic.SparseCore.Cfg (HIx Pay)
open scoped Idealize.SL.BI
open Idealize.SL.BI.BIBase Idealize.SL.BI.Laws Idealize.SL.ProofMode
open Cert.KernelIdeal Cert.KernelIdeal.Gen
open Idealize.ShloMosaic.Tactic Idealize.ShloMosaic.TcCoe
open Idealize.ShloMosaic.Pipeline (Dat Cfg Window BodyObligation)

variable {F : FTy → Type} [FloatOps F]

local notation "𝕄" => MM F

variable (V : (c : Dev nD) → (b : Ref sig .tc) → Buf (Elt F) ((c : Thread nD τ).loc b))

/-- The two blocks the body finds at a point. -/
abbrev xBlk (c : Dev nD) (t : Fin cfg0.N) : Vec F S8x384x384 .f32 := (win0_0.blk t).view.read (Elt F) (V c main_v0)
abbrev fBlk (c : Dev nD) (t : Fin cfg0.N) : Vec F S8x384x384 .i32 := (win0_1.blk t).view.read (Elt F) (V c main_v21)

/-- What the TensorCore has recorded waiting at before the SparseCore call: nothing above its own level. -/
abbrev low (c : Dev nD) : Set (SemLoc sig × HIx 1) := {p | (K (F := F)).lev ((c : Thread nD τ), p.1) p.2 ≤ 0}

/-- The proof data: the arrays as found; the input blocks left in place, the output's block computed; the debt to the
    SparseCore call standing throughout. -/
def dat (c : Dev nD) : Dat τ (Elt F) (HIx 1) ℕ UU ℕ cfg0 c where
  A w := V c (Pipeline.arrRef spec0 w)
  after w t := match w with
    | ⟨0, _⟩ => xBlk V c t
    | ⟨1, _⟩ => fBlk V c t
    | ⟨2, _⟩ => outBlock (grid0.coords t) (xBlk V c t) (fBlk V c t)
  Φ _ := BI.emp
  q _ := fullShare
  owed _ := (K (F := F)).Otc c 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (d : (cfg0.win 0).block.Idx → Elt F (cfg0.win 0).elt) : (dat V c).before 0 t d = xBlk V c t :=
  (dat V c).before_in_eq_fetched 0 rfl (fun _ => rfl) (fun _ _ _ => rfl) (fun _ => rfl) t d

theorem before1 (c : Dev nD) (t : Fin cfg0.N) (d : (cfg0.win 1).block.Idx → Elt F (cfg0.win 1).elt) : (dat V c).before 1 t d = fBlk V c t :=
  (dat V c).before_in_eq_fetched 1 rfl (fun _ => rfl) (fun _ _ _ => rfl) (fun _ => rfl) t d

theorem body_obligation (c : Dev nD) : BodyObligation (dat V c) (defs₀ (F := F)) 𝒱₀ none Set.univ := fun t => by
  rw [bigSep_W0, bigSep_W0]
  rw [show (dat V c).Φ t.castSucc = BI.emp from rfl, show (dat V c).Φ t.succ = BI.emp from rfl,
    show (dat V c).owesAt none t.succ = (dat V c).owesAt none t.castSucc from rfl]
  iintro ⟨-, Howes, ⟨%d0, H0⟩, ⟨%d1, H1⟩, ⟨%d2, H2⟩⟩
  ihave H0 := (Entails.of_eq (congrArg (fun B => owns (c : Thread nD τ) (st0_0 t) fullShare B) (before0 V c t d0))) $$ H0
  ihave H1 := (Entails.of_eq (congrArg (fun B => owns (c : Thread nD τ) (st0_1 t) fullShare B) (before1 V c t d1))) $$ H1
  iapply (wp_wand _ _ _) $$ [H0 H1 H2]
  · iapply (text_wp c (grid0.coords t) (st0_0 t) (st0_1 t) (st0_2 t) (xBlk V c t) (fBlk V c t))
    isplitl [H0]; · iexact H0
    isplitl [H1]; · iexact H1
    iexists _; iexact H2
  iintro %_ ⟨H0, H1, H2⟩
  isplitr; · iempintro
  isplitl [Howes]; · iexact Howes
  isplitl [H0]; · iexact H0
  isplitl [H1]; · iexact H1
  iexact H2

variable (Vp : (c : Dev nD) → (b : Ref sig .tc) → Buf (Elt F) ((c : Thread nD τ).loc b))

/-- The output's array after the region. -/
def tcArr (c : Dev nD) : Buf (Elt F) ((c : Thread nD τ).loc main_v22) := (dat V c).arrAt 2 cfg0.N

/-- What the TensorCore owes before the SparseCore call. -/
abbrev Debt (c : Dev nD) : sProp 𝕄 := iprop(∃ W, ⌜(K (F := F)).WBelow (T c) W 0⌝ ∗ owes (T c) ((K (F := F)).Otc c 0) W)

theorem otc_none (c : Dev nD) (g : GSem nD τ sig) : (K (F := F)).Otc c 0 g none = 0 := by
  by_contra h
  have h1 := (K (F := F)).lev_of_Otc_pos (Nat.pos_of_ne_zero h)
  have h2 : (K (F := F)).lev g none = 0 := rfl
  omega

set_option backward.isDefEq.respectTransparency.types false in
/-- The region over the thread state: the unscoped buffers at `V`, left with the output's array computed. -/
def reg (R : Dev nD → sProp 𝕄) (hVp_out : ∀ c, Vp c main_v22 = tcArr V c) (hVp_ne : ∀ c (b : Ref sig .tc), b ≠ main_v22 → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ (pdats V) none 0 c (R := levAts (K (F := F)).L (K (F := F)).lev) fun w s t =>
    (K (F := F)).mayWait_none _ (otc_none c)
  pre c := iprop(unscopedBufs c (V c) ∗ R c ∗ Debt c)
  post c := iprop(unscopedBufs c (Vp c) ∗ R c ∗ Debt c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = BI.emp from rfl]
    iintro ⟨-, -, -⟩; iempintro
  hout c := by
    rw [Pipeline.ownSems0_none, show (pdats V 0 c).Φ (Fin.last _) = BI.emp from rfl]
    iintro -
    isplitr; · iempintro
    isplitr; · iempintro
    iapply (Entails.of_eq (scopedRest0_eq c).symm)
    iempintro
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v0 (by decide)).symm
        · exact ((pdats V 0 c).arrAt_in 1 rfl _).trans (hVp_ne c main_v21 (by decide)).symm
        · exact (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, h⟩
      · exact h
      · subst h; exact le_of_eq rfl
    · iexact HO

end Cert.Proof.Tc
end
-- ==== Proof.HostOps.lean ====
/-
  @main's host operations: those before the two calls and those after, and @main as their sequence around the calls.
-/
module

public import proofs.«01_k».proof.Proof.ScSplit
public import proofs.«01_k».proof.Proof.TcRegion
public import Idealize.ShloMosaic.Lib.Pipeline.Frame
public import Idealize.ShloMosaic.Lib.StableHlo.RunHlo

@[expose] public section

noncomputable section

namespace Cert.Proof

open Idealize.ShloMosaic Idealize.SL Idealize.SL.RA Idealize.SL.BI Idealize.SL.Sem
open Idealize.ShloMosaic.SparseCore.Cfg (HIx Pay)
open Cert.KernelIdeal Cert.KernelIdeal.Gen

variable {F : FTy → Type} [FloatOps F]

/-- The table's contents and a number's. -/
abbrev W (F : FTy → Type) : Type := (⟨S8x384x384, .i32⟩ : BufTy).Contents (Elt F)
abbrev N (F : FTy → Type) : Type := (⟨S_, .i32⟩ : BufTy).Contents (Elt F)

/-- The host operations before the calls: the argument reshaped, and the counters' table. -/
def opsA : List (HloOp τ sig (Elt F)) :=
  [StableHlo.reshape main_arg0 main_v0 (rfl : (.f32 : EltTy) = .f32) shapeCasts_S4x96x384x384_S384x384x384,
   StableHlo.nullary main_v1 (iotaInDim S8x384x384 32 0),
   StableHlo.nullary main_v2 (iotaInDim S8x384x384 32 1),
   StableHlo.nullary main_v3 (iotaInDim S8x384x384 32 2),
   StableHlo.nullary main_c (constantI S_ 32 147456#32),
   StableHlo.unary main_c main_v4 (broadcastInDim S8x384x384 ![] bcast_S_S8x384x384 : N F → W F),
   StableHlo.binary main_v1 main_v4 main_v5 (muli : W F → W F → W F),
   StableHlo.nullary main_c_0 (constantI S_ 32 384#32),
   StableHlo.unary main_c_0 main_v6 (broadcastInDim S8x384x384 ![] bcast_S_S8x384x384 : N F → W F),
   StableHlo.binary main_v2 main_v6 main_v7 (muli : W F → W F → W F),
   StableHlo.binary main_v5 main_v7 main_v8 (addi : W F → W F → W F),
   StableHlo.nullary main_c_1 (constantI S_ 32 1#32),
   StableHlo.unary main_c_1 main_v9 (broadcastInDim S8x384x384 ![] bcast_S_S8x384x384 : N F → W F),
   StableHlo.binary main_v2 main_v9 main_v10 (andi : W F → W F → W F),
   StableHlo.nullary main_c_2 (constantI S_ 32 382#32),
   StableHlo.unary main_c_2 main_v11 (broadcastInDim S8x384x384 ![] bcast_S_S8x384x384 : N F → W F),
   StableHlo.binary main_v10 main_v11 main_v12 (muli : W F → W F → W F),
   StableHlo.binary main_v8 main_v12 main_v13 (subi : W F → W F → W F),
   StableHlo.nullary main_c_3 (constantI S_ 32 2#32),
   StableHlo.unary main_c_3 main_v14 (broadcastInDim S8x384x384 ![] bcast_S_S8x384x384 : N F → W F),
   StableHlo.binary main_v14 main_v3 main_v15 (muli : W F → W F → W F),
   StableHlo.binary main_v13 main_v15 main_v16 (addi : W F → W F → W F),
   StableHlo.nullary main_c_4 (constantI S_ 32 1#32),
   StableHlo.unary main_c_4 main_v17 (broadcastInDim S8x384x384 ![] bcast_S_S8x384x384 : N F → W F),
   StableHlo.binary main_v3 main_v17 main_v18 (andi : W F → W F → W F),
   StableHlo.binary main_v16 main_v18 main_v19 (subi : W F → W F → W F),
   StableHlo.nullary main_c_5 (constantI S_ 32 42#32),
   StableHlo.unary main_c_5 main_v20 (broadcastInDim S8x384x384 ![] bcast_S_S8x384x384 : N F → W F),
   StableHlo.binary main_v19 main_v20 main_v21 (addi : W F → W F → W F)]

/-- The host operations after the calls: the SparseCores' channels put in place, and the result reshaped. -/
def opsB : List (HloOp τ sig (Elt F)) :=
  [StableHlo.nullary main_c_6 (constantI S_ 32 296#32),
   StableHlo.nullary main_c_7 (constantI S_ 32 0#32),
   StableHlo.nullary main_c_8 (constantI S_ 32 0#32),
   StableHlo.binaryIndexed main_v22 main_v23 ![main_c_6, main_c_7, main_c_8] ⟨S_, .i32⟩ main_v24 ((fun x u i => Host.dynamicUpdateSlice x u (fun k => (i k (Shape.Idx.first h_S_)).toInt) updateFits_S384x192x192_S88x192x192) : (⟨S384x192x192, .f32⟩ : BufTy).Contents (Elt F) → (⟨S88x192x192, .f32⟩ : BufTy).Contents (Elt F) → (Fin 3 → N F) → (⟨S384x192x192, .f32⟩ : BufTy).Contents (Elt F)),
   StableHlo.reshape main_v24 main_v25 (rfl : (.f32 : EltTy) = .f32) shapeCasts_S384x192x192_S4x96x192x192]

/-- @main is the operations before, the two calls, the operations after. -/
theorem main_eq (d : Dev nD) : main (F := F) d = (StableHlo.seq opsA >>= fun _ =>
    (Prog.lift (.customCall (SparseCore.inner (Pipeline.entry 0)) ()) >>= fun _ => (sc (F := F)).run d 0 >>= fun _ => StableHlo.seq opsB)) := by
  rw [StableHlo.seq_bind_seqK]
  rfl

theorem opsA_sub : (opsA (F := F)).Forall fun op => op.bufs ⊆ StableHlo.tcRefs τ sig := by
  simp only [opsA, List.forall_cons, List.Forall, StableHlo.nullary_bufs_sub, StableHlo.unary_bufs_sub, StableHlo.binary_bufs_sub, StableHlo.reshape_bufs_sub, and_self]

theorem opsB_sub : (opsB (F := F)).Forall fun op => op.bufs ⊆ StableHlo.tcRefs τ sig := by
  simp only [opsB, List.forall_cons, List.Forall, StableHlo.nullary_bufs_sub, StableHlo.binaryIndexed_bufs_sub, StableHlo.reshape_bufs_sub, and_self]

theorem opsA_fresh : (opsA (F := F)).Forall fun op => op.fresh = ∅ := StableHlo.forall_fresh_of_map rfl
theorem opsB_fresh : (opsB (F := F)).Forall fun op => op.fresh = ∅ := StableHlo.forall_fresh_of_map rfl

variable (m : (ℓ : Loc nD τ sig) → Buf (Elt F) ℓ)

/-- The buffers before the calls, after the TensorCore's, after the SparseCores', and at the end. -/
def V1 (d : Dev nD) : Valuation τ sig (Elt F) := StableHlo.after opsA fun b => m (d, b)
def V1' (d : Dev nD) (b : Ref sig .tc) : Buf (Elt F) ((d.tc : Thread nD τ).loc b) := V1 m d (Proc.devRef .tc b)
def V2 (d : Dev nD) : Valuation τ sig (Elt F) := Function.update (V1 m d) (Proc.devRef .tc main_v22) (Tc.tcArr (V1' m) d)
def V2' (d : Dev nD) (b : Ref sig .tc) : Buf (Elt F) ((d.tc : Thread nD τ).loc b) := V2 m d (Proc.devRef .tc b)
/-- What the SparseCores read. -/
def X (d : Dev nD) : Buf (Elt F) (Sc.xLoc d) := V1 m d (Proc.devRef .tc main_v0)
def V3 (d : Dev nD) : Valuation τ sig (Elt F) := Function.update (V2 m d) (Proc.devRef .tc main_v23) (Sc.done (X m) d)
def V4 (d : Dev nD) : Valuation τ sig (Elt F) := StableHlo.after opsB (V3 m d)

theorem V2_out (d : Dev nD) : V2' m d main_v22 = Tc.tcArr (V1' m) d := by
  unfold V2' V2
  exact Function.update_self (β := fun b : DevRef τ sig => b.ty.Contents (Elt F)) _ _ _
theorem V2_ne (d : Dev nD) (b : Ref sig .tc) (h : b ≠ main_v22) : V2' m d b = V1' m d b :=
  Function.update_of_ne (fun h' => h (Proc.devRef_injective _ h')) _ _
theorem V2_x (d : Dev nD) : V2 m d (Proc.devRef .tc main_v0) = X m d := V2_ne m d main_v0 (by decide)
theorem V3_x (d : Dev nD) : V3 m d (Proc.devRef .tc main_v0) = X m d :=
  (Function.update_of_ne (fun h' => absurd (Proc.devRef_injective _ h') (by decide)) _ _).trans (V2_x m d)
theorem V3_out (d : Dev nD) : V3 m d (Proc.devRef .tc main_v23) = Sc.done (X m) d := Function.update_self _ _ _

/-- The argument is never written. -/
theorem V4_arg (d : Dev nD) : V4 m d (Proc.devRef .tc main_arg0) = m (d, Proc.devRef .tc main_arg0) := by
  unfold V4 V3 V2 V1
  rw [StableHlo.after_of_writes_sub (W := [main_c_6, main_c_7, main_c_8, main_v24, main_v25]) opsB _ (StableHlo.forall_writes_sub_of_map rfl) (by decide),
    Function.update_of_ne (fun h' => absurd (Proc.devRef_injective _ h') (by decide)),
    Function.update_of_ne (fun h' => absurd (Proc.devRef_injective _ h') (by decide)),
    StableHlo.after_of_writes_sub (W := [main_v0, main_v1, main_v2, main_v3, main_c, main_v4, main_v5, main_c_0, main_v6, main_v7, main_v8, main_c_1, main_v9, main_v10, main_c_2, main_v11, main_v12, main_v13, main_c_3, main_v14, main_v15, main_v16, main_c_4, main_v17, main_v18, main_v19, main_c_5, main_v20, main_v21]) opsA _ (StableHlo.forall_writes_sub_of_map rfl) (by decide)]

end Cert.Proof
end
-- ==== Proof.Main.lean ====
/-
  @main's run: the host operations, the TensorCore call as a region, the SparseCore call dealt and gathered, the host
  operations after; and the whole program's run with the result's contents, over any float values.
-/
module

public import proofs.«01_k».proof.Proof.HostOps

@[expose] public section

noncomputable section

namespace Cert.Proof

open Idealize.ShloMosaic Idealize.SL Idealize.SL.RA Idealize.SL.BI Idealize.SL.Sem
open Idealize.ShloMosaic.SparseCore (S V T)
open Idealize.ShloMosaic.SparseCore.Cfg (HIx Pay)
open Idealize.ShloMosaic.SparseCore.Cfg
open Idealize.ShloMosaic.Rounds
open scoped Idealize.SL.BI
open Idealize.SL.BI.BIBase Idealize.SL.BI.Laws Idealize.SL.ProofMode
open Cert.KernelIdeal Cert.KernelIdeal.Gen
open Idealize.ShloMosaic.Tactic
open Idealize.ShloMosaic.StableHlo (held)

variable {F : FTy → Type} [FloatOps F]

local notation "𝕄" => MM F

variable (m : (ℓ : Loc nD τ sig) → Buf (Elt F) ℓ)

/-! ## The launch element -/

abbrev pin0 : (p : Fin 1) → Pipeline.Cfg sig Λ₀ := Pipeline.pin (pcfgs (F := F)) Tc.adm

def u₀ : UU := (initOf (K (F := F)).hsCells (K (F := F)).hsToks,
  (initOf (Pipeline.cells (pin0 (F := F)) cellOf_inj) (Pipeline.launchToks (pin0 (F := F)) cellOf_inj), 1))

/-- The pipeline's cells and tokens on a device's TensorCore. -/
abbrev Ghost (d : Dev nD) : sProp 𝕄 := iprop(Pipeline.cellsGhost (pin0 (F := F)) EP 0 d ∗ Pipeline.toksInit (pin0 (F := F)) EP 0 d)

theorem ghosts_split : iprop((bigSep Finset.univ fun c : Dev nD => bigSep Finset.univ fun p => Pipeline.cellsGhost (pin0 (F := F)) EP p c)
      ∗ (bigSep Finset.univ fun c : Dev nD => bigSep Finset.univ fun p => (Pipeline.toksInit (pin0 (F := F)) EP p c : sProp 𝕄)))
    ⊢ bigSep Finset.univ fun d : Dev nD => Ghost d := by
  rw [bigSep_sep' (Finset.univ : Finset (Dev nD))]
  rw [show (Finset.univ : Finset (Fin 1)) = {0} from rfl]
  simp only [bigSep_singleton]
  exact Entails.refl _

theorem own_right (r : UR) : (BI.own (embR (r, (1 : Counters)) ) : sProp 𝕄) = BI.own (EP r) := rfl

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Ghost d)
        ∗ bigSep Finset.univ fun thr : Thread nD τ => bigSep Finset.univ fun q : Fin 1 => (Sc.P (X m)).x q thr) := by
  unfold u₀
  iintro Hu
  ihave H := (ownU_pair _ _) $$ Hu
  icases H with ⟨HH, HR⟩
  ihave HR := (Entails.of_eq (own_right (F := F) _)) $$ HR
  imod (Pipeline.fund_ghost (pin0 (F := F)) EP cellOf_inj) $$ HR with HG
  imodintro
  isplitl [HH]; · iexact HH
  isplitl [HG]; · iapply ghosts_split; iexact HG
  unfold Sc.P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The TensorCore call -/

/-- The TensorCore's region at the contents the host operations leave. -/
def region : Pipeline.RegionSeg (pcfgs (F := F)) Tc.adm (Tc.pdats (V1' m)) none defs₀ 𝒱₀ (K (F := F)).L (K (F := F)).lev 0 :=
  Tc.reg (V1' m) (V2' m) (fun _ => iprop(emp)) (V2_out m) (V2_ne m)

set_option backward.isDefEq.respectTransparency.types false in
theorem call_wp (d : Dev nD) [∀ e, Nonempty (Elt F e)] :
    iprop(boundary (SparseCore.T d : Thread nD τ) ∗ (unscopedBufs d (V1' m d)) ∗ Tc.Debt d ∗ levAts (K (F := F)).L (K (F := F)).lev ∗ Ghost d)
      ⊢ wp frame (wpE ((K (F := F)).defs (D (F := F))) 𝒱 (SparseCore.T d) none) Set.univ (Prog.lift (.customCall (SparseCore.inner (Pipeline.entry 0)) ()))
          fun _ => iprop(boundary (SparseCore.T d : Thread nD τ) ∗ (unscopedBufs d (V2' m d)) ∗ Tc.Debt d) := by
  have h1 := (K (F := F)).wp_liftProg (D (F := F)) 𝒱 (SparseCore.T d) Set.univ none (Prog.lift (.customCall (Pipeline.entry (0 : Fin 1)) ()))
    (fun _ => iprop(boundary (SparseCore.T d : Thread nD τ) ∗ (unscopedBufs d (V2' m d)) ∗ Tc.Debt d))
  have h2 := Pipeline.RegionSeg.wp (pcfgs (F := F)) Tc.adm (Tc.pdats (V1' m)) none cellOf_inj EP defs₀ 𝒱₀ (K (F := F)).L (K (F := F)).lev (region m) d none
    (fun u hu => nomatch hu) (fun u => .ret u) (fun _ => iprop(boundary (SparseCore.T d : Thread nD τ) ∗ (unscopedBufs d (V2' m d)) ∗ Tc.Debt d))
  refine BIBase.Entails.trans ?_ h1
  refine BIBase.Entails.trans ?_ h2
  iintro ⟨Hb, Hu, HD, #Hl, HG⟩
  icases HG with ⟨Hc, Ht⟩
  isplitr
  · iintro ⟨Hb, Hp⟩
    rw [wp_ret]; imodintro
    isplitl [Hb]; · iexact Hb
    ihave Hp := (Entails.of_eq (show (region m).post d = iprop(unscopedBufs d (V2' m d) ∗ emp ∗ Tc.Debt d) from rfl)) $$ Hp
    icases Hp with ⟨Hu, -, HD⟩
    isplitl [Hu]; · iexact Hu
    iexact HD
  isplitl [Hb]; · iexact Hb
  isplitl [Hu HD]
  · iapply (Entails.of_eq (show iprop(unscopedBufs d (V1' m d) ∗ emp ∗ Tc.Debt d) = (region m).pre d from rfl))
    isplitl [Hu]; · iexact Hu
    isplitr; · iempintro
    iexact HD
  isplitr; · iexact Hl
  isplitl [Hc]; · iexact Hc
  iexact Ht

/-! ## The SparseCore call's arrays, taken out of the buffers held and put back -/

abbrev xRef : DevRef τ sig := Proc.devRef .tc (main_v0 : Ref sig .tc)
abbrev oRef : DevRef τ sig := Proc.devRef .tc (main_v23 : Ref sig .tc)
abbrev aRef : DevRef τ sig := Proc.devRef .tc (main_arg0 : Ref sig .tc)
abbrev rRef : DevRef τ sig := Proc.devRef .tc (main_v25 : Ref sig .tc)
abbrev Un : Finset (DevRef τ sig) := Pipeline.ucRefs τ sig

theorem mem_un (b : Ref sig .tc) (h : (Proc.devRef (τ := τ) .tc b).isScoped = false) : Proc.devRef (τ := τ) .tc b ∈ Un :=
  Finset.mem_filter.mpr ⟨StableHlo.devRef_mem_tcRefs b, by rw [h]; exact Bool.false_ne_true⟩

/-- Two buffers taken out of those held. -/
theorem held_two (d : Dev nD) (a b : DevRef τ sig) (ha : a ∈ Un) (hb : b ∈ Un.erase a) (W : Valuation τ sig (Elt F)) :
    (held (SparseCore.T d) Un W : sProp 𝕄) = iprop(((d, a) ↦{fullShare} W a) ∗ ((d, b) ↦{fullShare} W b) ∗ held (SparseCore.T d) ((Un.erase a).erase b) W) := by
  unfold held
  rw [SparseCore.bigSep_erase' ha, SparseCore.bigSep_erase' hb]

theorem held_rest (d : Dev nD) : (held (SparseCore.T d) ((Un.erase xRef).erase oRef) (V2 m d) : sProp 𝕄)
    = held (SparseCore.T d) ((Un.erase xRef).erase oRef) (V3 m d) := by
  unfold held
  refine bigSep_congr fun b hb => ?_
  rw [show V3 m d b = V2 m d b from Function.update_of_ne (Finset.ne_of_mem_erase hb) _ _]

theorem x_mem : xRef ∈ Un := mem_un _ rfl
theorem o_mem : oRef ∈ Un.erase xRef := Finset.mem_erase.mpr ⟨fun h => absurd (Proc.devRef_injective _ h) (by decide), mem_un _ rfl⟩
theorem a_mem : aRef ∈ Un := mem_un _ rfl
theorem r_mem : rRef ∈ Un.erase aRef := Finset.mem_erase.mpr ⟨fun h => absurd (Proc.devRef_injective _ h) (by decide), mem_un _ rfl⟩

/-- The SparseCores' arrays as the call takes them. -/
theorem held_before (d : Dev nD) : (held (SparseCore.T d) Un (V2 m d) : sProp 𝕄)
    = iprop((Sc.xLoc d ↦{fullShare} X m d) ∗ (Sc.oLoc d ↦{fullShare} V2 m d oRef) ∗ held (SparseCore.T d) ((Un.erase xRef).erase oRef) (V3 m d)) := by
  rw [held_two d xRef oRef x_mem o_mem, V2_x, held_rest]

/-- And as it leaves them. -/
theorem held_after (d : Dev nD) : (held (SparseCore.T d) Un (V3 m d) : sProp 𝕄)
    = iprop((Sc.xLoc d ↦{fullShare} X m d) ∗ (Sc.oLoc d ↦{fullShare} Sc.done (X m) d) ∗ held (SparseCore.T d) ((Un.erase xRef).erase oRef) (V3 m d)) := by
  rw [held_two d xRef oRef x_mem o_mem, V3_x, V3_out]

/-! ## @main on the TensorCore -/

/-- What @main leaves the claim: the argument as launched, and the result. -/
abbrev FIN (d : Dev nD) : sProp 𝕄 := iprop(((d, aRef) ↦{fullShare} m (d, aRef)) ∗ ((d, rRef) ↦{fullShare} V4 m d rRef))

/-- The TensorCore's state before the SparseCore call, its debt set apart. -/
theorem tcSt_open (d : Dev nD) : ((K (F := F)).tcSt EH d 0 : sProp 𝕄) ⊢ iprop(Tc.Debt d ∗ (Tc.Debt d -∗ (K (F := F)).tcSt EH d 0)) := by
  unfold SparseCore.Cfg.tcSt
  iintro ⟨HD, Hr⟩
  isplitl [HD]; · iexact HD
  iintro HD
  isplitl [HD]; · iexact HD
  iexact Hr

theorem held_of_unscoped (d : Dev nD) (W : Valuation τ sig (Elt F)) : (unscopedBufs d (fun b => W (Proc.devRef .tc b)) : sProp 𝕄) = held (SparseCore.T d) Un W :=
  Pipeline.unscopedBufs_held d W

variable (ρ : Dev nD → PrngReg)

set_option backward.isDefEq.respectTransparency.types false in
theorem hmain [∀ e, Nonempty (Elt F e)] (κ : GSem nD τ sig → ℕ) (d : Dev nD) :
    iprop((K (F := F)).ctx EH (Sc.P (X m)) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) Un (fun b => m (d, b)) from
    held_of_unscoped d fun b => m (d, b)]
  iintro ⟨#Hctx, Hst, ⟨Hb, Hheld, Hts, -⟩, HG⟩
  -- the host operations before
  iapply (StableHlo.wp_seq 𝒱 none Set.univ d Un _ (opsA (F := F)) (fun op h => Pipeline.sub_ucRefs op ((List.forall_iff_forall_mem.mp opsA_sub) op h))
    (fun op h => (List.forall_iff_forall_mem.mp opsA_fresh) op h) (fun b => m (d, b))) $$ [Hb Hheld]
  · isplitl [Hb] <;> iassumption
  iintro ⟨Hb, Hheld⟩
  -- the TensorCore call
  ihave Hu := (Entails.of_eq (show (held (SparseCore.T d) Un (StableHlo.after opsA fun b => m (d, b)) : sProp 𝕄) = unscopedBufs d (V1' m d) from
    (held_of_unscoped d (V1 m d)).symm)) $$ Hheld
  ihave Hst := (tcSt_open d) $$ Hst
  icases Hst with ⟨HD, Hst⟩
  ihave Hl := (SparseCore.Cfg.ctx_levAts κ) $$ Hctx
  rw [wp_bind]
  iapply (wp_wand _ _ _) $$ [Hb Hu HD Hl HG]
  · iapply (call_wp m d)
    isplitl [Hb]; · iexact Hb
    isplitl [Hu]; · iexact Hu
    isplitl [HD]; · iexact HD
    isplitl [Hl]; · iexact Hl
    iexact HG
  iintro %_ ⟨Hb, Hu, HD⟩
  ihave Hst := Hst $$ HD
  ihave Hheld := (Entails.of_eq (show (unscopedBufs d (V2' m d) : sProp 𝕄) = held (SparseCore.T d) Un (V2 m d) from held_of_unscoped d (V2 m d))) $$ Hu
  ihave Hheld := (Entails.of_eq (held_before m d)) $$ Hheld
  icases Hheld with ⟨Hx, Ho, Hrest⟩
  ihave Hin := (Sc.deal (X m) d (V2 m d oRef)) $$ [Hx Ho]
  · isplitl [Hx] <;> iassumption
  -- the SparseCore call
  rw [wp_bind]
  iapply ((K (F := F)).wp_run (D (F := F)) 𝒱 (EH := EH) (P := Sc.P (X m)) κ d 0) $$ [Hst Hin Hb Hrest Hts]
  isplitr; · iexact Hctx
  isplitl [Hst]; · iexact Hst
  isplitl [Hin]; · iexact Hin
  iintro ⟨Hst, Hdn⟩
  ihave Hout := (Sc.gather (X m) d) $$ Hdn
  icases Hout with ⟨Hx, Ho⟩
  ihave Hheld := (Entails.of_eq (held_after m d).symm) $$ [Hx Ho Hrest]
  · isplitl [Hx]; · iexact Hx
    isplitl [Ho] <;> iassumption
  -- the host operations after
  rw [show (StableHlo.seq opsB : Prog _ PUnit) = StableHlo.seq opsB >>= fun u => .ret u from (bind_pure _).symm]
  iapply (StableHlo.wp_seq 𝒱 none Set.univ d Un _ (opsB (F := F)) (fun op h => Pipeline.sub_ucRefs op ((List.forall_iff_forall_mem.mp opsB_sub) op h))
    (fun op h => (List.forall_iff_forall_mem.mp opsB_fresh) op h) (V3 m d)) $$ [Hb Hheld]
  · isplitl [Hb] <;> iassumption
  iintro ⟨Hb, Hheld⟩
  ihave Hheld := (Entails.of_eq (show (held (SparseCore.T d) Un (StableHlo.after opsB (V3 m d)) : sProp 𝕄) = _ from held_two d aRef rRef a_mem r_mem (V4 m d))) $$ Hheld
  icases Hheld with ⟨Ha, Hr, -⟩
  rw [wp_ret]; imodintro
  isplitl [Hst]; · iexact Hst
  isplitl [Ha Hr]
  · isplitl [Ha]
    · iapply (Entails.of_eq (congrArg (fun f => (((d, aRef) ↦{fullShare} f : sProp 𝕄))) (V4_arg m d))); iexact Ha
    iexact Hr
  isplitl [Hb] <;> iassumption

/-! ## The whole program's run -/

def fq (d : Dev nD) (s' : Phys nD τ sig (Elt F)) : Prop := s'.mem.mem (d, aRef) = m (d, aRef) ∧ s'.mem.mem (d, rRef) = V4 m d rRef

theorem agree (d : Dev nD) (b : DevRef τ sig) (f : Buf (Elt F) (d, b)) (s' : Phys nD τ sig (Elt F)) :
    iprop(SI s' ∗ ((d, b) ↦{fullShare} f)) ⊢ (⌜s'.mem.mem (d, b) = f⌝ : sProp 𝕄) := by
  iintro ⟨HSI, Hx⟩
  ihave H := (SI_pointsTo_agree (st := s') (ℓ := (d, b)) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  iintro ⟨⟨Ha, Hr⟩, HSI⟩
  ihave %h1 := (agree d aRef _ s') $$ [HSI Ha]
  · isplitl [HSI] <;> iassumption
  ihave %h2 := (agree d rRef _ s') $$ [HSI Hr]
  · isplitl [HSI] <;> iassumption
  ipureintro; exact ⟨h1, h2⟩

/-- Every device's argument as launched, its result at what the calls compute, every counter at zero. -/
def QC : PUnit × MemSt nD τ sig (Elt F) → Prop := fun r => (∀ c : Dev nD, r.2.mem (c, aRef) = m (c, aRef) ∧ r.2.mem (c, rRef) = V4 m c rRef) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Sc.P (X m)) (A := ∅) facts v₀
    (fun q hq => match q with | 0 => nomatch hq)
    (fun q _ => match q with | 0 => Sc.tileObl (X m) facts)
    (fun q _ => match q with | 0 => SparseCore.Cfg.VecSplit.of_plain (Sc.vecSplit (X m)))
    m ρ main (fun d => Ghost d) (FIN m) (u₀ (F := F)) (sep_elim_left.trans (hu₀ m)) (hmain m ρ) (fq m) (hfin m) (QC m) (fun _ h hz => ⟨h, hz⟩)

end Cert.Proof
end
-- ==== Proof.RefOps.lean ====
/-
  The reference's host operations, as lists: what comes before the random words, the five groups of mixing rounds, the
  perturbed logarithms, the index of the largest; and the reference's text as their sequence.
-/
module

public import proofs.«01_k».proof.Proof.Gen.ReferenceIdeal
public import Idealize.ShloMosaic.Lib.StableHlo.RunHlo
public import Idealize.ShloMosaic.Lib.StableHlo.ReadAt

@[expose] public section

noncomputable section

namespace Cert.Proof.Ref

open Idealize.ShloMosaic Idealize.SL Idealize.SL.Sem
open Cert.ReferenceIdeal Cert.ReferenceIdeal.Gen

variable {F : FTy → Type} [FloatOps F]

/-- The contents of a value of shape `s`. -/
abbrev C (F : FTy → Type) (s : Shape) (e : EltTy) : Type := (⟨s, e⟩ : BufTy).Contents (Elt F)

/-- The host operations up to the random words: the quads of pixels, their logarithms, the key and the counters. -/
def preOps : List (HloOp τ sig (Elt F)) :=
  [StableHlo.reshape main_arg0 main_v0 (rfl : (.f32 : EltTy) = .f32) shapeCasts_S4x96x384x384_S4x96x192x2x192x2,
   StableHlo.unary main_v0 main_v1 ((transpose S4x96x192x192x2x2 [0, 1, 2, 4, 3, 5] · transposes_S4x96x192x2x192x2_S4x96x192x192x2x2_0_1_2_4_3_5) : (C F S4x96x192x2x192x2 .f32) → (C F S4x96x192x192x2x2 .f32)),
   StableHlo.reshape main_v1 main_v2 (rfl : (.f32 : EltTy) = .f32) shapeCasts_S4x96x192x192x2x2_S4x96x192x192x4,
   StableHlo.unary main_v2 main_v3 (Host.log : (C F S4x96x192x192x4 .f32) → (C F S4x96x192x192x4 .f32)),
   StableHlo.nullary main_c (constantI S_ 32 42#32),
   StableHlo.nullary main_c_0 (constantI S_ 32 32#32),
   StableHlo.binary main_c main_c_0 main_v4 (Host.shrui : (C F S_ .i32) → (C F S_ .i32) → (C F S_ .i32)),
   StableHlo.unary main_v4 main_v5 (id : (C F S_ .i32) → (C F S_ .i32)),
   StableHlo.unary main_v5 main_v6 (broadcastInDim S1 ![] bcast_S_S1 : (C F S_ .i32) → (C F S1 .i32)),
   StableHlo.nullary main_c_1 (constantI S_ 32 4294967295#32),
   StableHlo.binary main_c main_c_1 main_v7 (andi : (C F S_ .i32) → (C F S_ .i32) → (C F S_ .i32)),
   StableHlo.unary main_v7 main_v8 (id : (C F S_ .i32) → (C F S_ .i32)),
   StableHlo.unary main_v8 main_v9 (broadcastInDim S1 ![] bcast_S_S1 : (C F S_ .i32) → (C F S1 .i32)),
   StableHlo.binary main_v6 main_v9 main_v10 ((fun a b => concatenate S2 0 [⟨S1, a⟩, ⟨S1, b⟩] concatenates_S1_S1_S2_d0) : (C F S1 .i32) → (C F S1 .i32) → (C F S2 .i32)),
   StableHlo.unary main_v10 main_v11 ((extractStridedSlice S1 ![0] · slices_S2_S1_0) : (C F S2 .i32) → (C F S1 .i32)),
   StableHlo.reshape main_v11 main_v12 (rfl : (.i32 : EltTy) = .i32) shapeCasts_S1_S_,
   StableHlo.unary main_v10 main_v13 ((extractStridedSlice S1 ![1] · slices_S2_S1_1) : (C F S2 .i32) → (C F S1 .i32)),
   StableHlo.reshape main_v13 main_v14 (rfl : (.i32 : EltTy) = .i32) shapeCasts_S1_S_,
   StableHlo.nullary main_v15 (iotaInDim S4x96x192x192x4 64 0),
   StableHlo.nullary main_v16 (iotaInDim S4x96x192x192x4 64 1),
   StableHlo.nullary main_v17 (iotaInDim S4x96x192x192x4 64 2),
   StableHlo.nullary main_v18 (iotaInDim S4x96x192x192x4 64 3),
   StableHlo.nullary main_v19 (iotaInDim S4x96x192x192x4 64 4),
   StableHlo.nullary main_c_2 (constantI S_ 64 14155776#64),
   StableHlo.unary main_c_2 main_v20 (broadcastInDim S4x96x192x192x4 ![] bcast_S_S4x96x192x192x4 : (C F S_ .i64) → (C F S4x96x192x192x4 .i64)),
   StableHlo.binary main_v20 main_v15 main_v21 (muli : (C F S4x96x192x192x4 .i64) → (C F S4x96x192x192x4 .i64) → (C F S4x96x192x192x4 .i64)),
   StableHlo.nullary main_c_3 (constantI S_ 64 147456#64),
   StableHlo.unary main_c_3 main_v22 (broadcastInDim S4x96x192x192x4 ![] bcast_S_S4x96x192x192x4 : (C F S_ .i64) → (C F S4x96x192x192x4 .i64)),
   StableHlo.binary main_v22 main_v16 main_v23 (muli : (C F S4x96x192x192x4 .i64) → (C F S4x96x192x192x4 .i64) → (C F S4x96x192x192x4 .i64)),
   StableHlo.nullary main_c_4 (constantI S_ 64 768#64),
   StableHlo.unary main_c_4 main_v24 (broadcastInDim S4x96x192x192x4 ![] bcast_S_S4x96x192x192x4 : (C F S_ .i64) → (C F S4x96x192x192x4 .i64)),
   StableHlo.binary main_v24 main_v17 main_v25 (muli : (C F S4x96x192x192x4 .i64) → (C F S4x96x192x192x4 .i64) → (C F S4x96x192x192x4 .i64)),
   StableHlo.nullary main_c_5 (constantI S_ 64 4#64),
   StableHlo.unary main_c_5 main_v26 (broadcastInDim S4x96x192x192x4 ![] bcast_S_S4x96x192x192x4 : (C F S_ .i64) → (C F S4x96x192x192x4 .i64)),
   StableHlo.binary main_v26 main_v18 main_v27 (muli : (C F S4x96x192x192x4 .i64) → (C F S4x96x192x192x4 .i64) → (C F S4x96x192x192x4 .i64)),
   StableHlo.nullary main_c_6 (constantI S_ 64 1#64),
   StableHlo.unary main_c_6 main_v28 (broadcastInDim S4x96x192x192x4 ![] bcast_S_S4x96x192x192x4 : (C F S_ .i64) → (C F S4x96x192x192x4 .i64)),
   StableHlo.binary main_v28 main_v19 main_v29 (muli : (C F S4x96x192x192x4 .i64) → (C F S4x96x192x192x4 .i64) → (C F S4x96x192x192x4 .i64)),
   StableHlo.binary main_v21 main_v23 main_v30 (addi : (C F S4x96x192x192x4 .i64) → (C F S4x96x192x192x4 .i64) → (C F S4x96x192x192x4 .i64)),
   StableHlo.binary main_v30 main_v25 main_v31 (addi : (C F S4x96x192x192x4 .i64) → (C F S4x96x192x192x4 .i64) → (C F S4x96x192x192x4 .i64)),
   StableHlo.binary main_v31 main_v27 main_v32 (addi : (C F S4x96x192x192x4 .i64) → (C F S4x96x192x192x4 .i64) → (C F S4x96x192x192x4 .i64)),
   StableHlo.binary main_v32 main_v29 main_v33 (addi : (C F S4x96x192x192x4 .i64) → (C F S4x96x192x192x4 .i64) → (C F S4x96x192x192x4 .i64)),
   StableHlo.nullary main_c_7 (constantI S_ 64 32#64),
   StableHlo.unary main_c_7 main_v34 (broadcastInDim S4x96x192x192x4 ![] bcast_S_S4x96x192x192x4 : (C F S_ .i64) → (C F S4x96x192x192x4 .i64)),
   StableHlo.binary main_v33 main_v34 main_v35 (Host.shrui : (C F S4x96x192x192x4 .i64) → (C F S4x96x192x192x4 .i64) → (C F S4x96x192x192x4 .i64)),
   StableHlo.unary main_v33 main_v36 ((trunci 32 · natLt_32_64) : (C F S4x96x192x192x4 .i64) → (C F S4x96x192x192x4 .i32)),
   StableHlo.unary main_v35 main_v37 ((trunci 32 · natLt_32_64) : (C F S4x96x192x192x4 .i64) → (C F S4x96x192x192x4 .i32))]

/-- The key word and the counter, the first four mixing rounds, the first key addition. -/
def group0 (arg0 arg1 : StableHlo.TRef sig ⟨S_, .i32⟩) (arg2 arg3 : StableHlo.TRef sig ⟨S4x96x192x192x4, .i32⟩) (φ : fn_threefry2x32.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S4x96x192x192x4 ![] bcast_S_S4x96x192x192x4),
   StableHlo.TRef.binary arg2 φ.v2 φ.v3 addi,
   StableHlo.TRef.unary arg1 φ.v4 (broadcastInDim S4x96x192x192x4 ![] bcast_S_S4x96x192x192x4),
   StableHlo.TRef.binary arg3 φ.v4 φ.v5 addi,
   StableHlo.TRef.binary φ.v3 φ.v5 φ.v6 addi,
   StableHlo.TRef.nullary φ.c_0 (constantI S_ 32 13#32),
   StableHlo.TRef.unary φ.c_0 φ.v7 (broadcastInDim S4x96x192x192x4 ![] bcast_S_S4x96x192x192x4),
   StableHlo.TRef.binary φ.v5 φ.v7 φ.v8 Host.shli,
   StableHlo.TRef.nullary φ.c_1 (constantI S_ 32 19#32),
   StableHlo.TRef.unary φ.c_1 φ.v9 (broadcastInDim S4x96x192x192x4 ![] bcast_S_S4x96x192x192x4),
   StableHlo.TRef.binary φ.v5 φ.v9 φ.v10 Host.shrui,
   StableHlo.TRef.binary φ.v8 φ.v10 φ.v11 ori,
   StableHlo.TRef.binary φ.v6 φ.v11 φ.v12 xori,
   StableHlo.TRef.binary φ.v6 φ.v12 φ.v13 addi,
   StableHlo.TRef.nullary φ.c_2 (constantI S_ 32 15#32),
   StableHlo.TRef.unary φ.c_2 φ.v14 (broadcastInDim S4x96x192x192x4 ![] bcast_S_S4x96x192x192x4),
   StableHlo.TRef.binary φ.v12 φ.v14 φ.v15 Host.shli,
   StableHlo.TRef.nullary φ.c_3 (constantI S_ 32 17#32),
   StableHlo.TRef.unary φ.c_3 φ.v16 (broadcastInDim S4x96x192x192x4 ![] bcast_S_S4x96x192x192x4),
   StableHlo.TRef.binary φ.v12 φ.v16 φ.v17 Host.shrui,
   StableHlo.TRef.binary φ.v15 φ.v17 φ.v18 ori,
   StableHlo.TRef.binary φ.v13 φ.v18 φ.v19 xori,
   StableHlo.TRef.binary φ.v13 φ.v19 φ.v20 addi,
   StableHlo.TRef.nullary φ.c_4 (constantI S_ 32 26#32),
   StableHlo.TRef.unary φ.c_4 φ.v21 (broadcastInDim S4x96x192x192x4 ![] bcast_S_S4x96x192x192x4),
   StableHlo.TRef.binary φ.v19 φ.v21 φ.v22 Host.shli,
   StableHlo.TRef.nullary φ.c_5 (constantI S_ 32 6#32),
   StableHlo.TRef.unary φ.c_5 φ.v23 (broadcastInDim S4x96x192x192x4 ![] bcast_S_S4x96x192x192x4),
   StableHlo.TRef.binary φ.v19 φ.v23 φ.v24 Host.shrui,
   StableHlo.TRef.binary φ.v22 φ.v24 φ.v25 ori,
   StableHlo.TRef.binary φ.v20 φ.v25 φ.v26 xori,
   StableHlo.TRef.binary φ.v20 φ.v26 φ.v27 addi,
   StableHlo.TRef.nullary φ.c_6 (constantI S_ 32 6#32),
   StableHlo.TRef.unary φ.c_6 φ.v28 (broadcastInDim S4x96x192x192x4 ![] bcast_S_S4x96x192x192x4),
   StableHlo.TRef.binary φ.v26 φ.v28 φ.v29 Host.shli,
   StableHlo.TRef.nullary φ.c_7 (constantI S_ 32 26#32),
   StableHlo.TRef.unary φ.c_7 φ.v30 (broadcastInDim S4x96x192x192x4 ![] bcast_S_S4x96x192x192x4),
   StableHlo.TRef.binary φ.v26 φ.v30 φ.v31 Host.shrui,
   StableHlo.TRef.binary φ.v29 φ.v31 φ.v32 ori,
   StableHlo.TRef.binary φ.v27 φ.v32 φ.v33 xori,
   StableHlo.TRef.unary arg1 φ.v34 (broadcastInDim S4x96x192x192x4 ![] bcast_S_S4x96x192x192x4),
   StableHlo.TRef.binary φ.v27 φ.v34 φ.v35 addi,
   StableHlo.TRef.unary φ.v1 φ.v36 (broadcastInDim S4x96x192x192x4 ![] bcast_S_S4x96x192x192x4),
   StableHlo.TRef.binary φ.v33 φ.v36 φ.v37 addi,
   StableHlo.TRef.nullary φ.c_8 (constantI S_ 32 1#32),
   StableHlo.TRef.unary φ.c_8 φ.v38 (broadcastInDim S4x96x192x192x4 ![] bcast_S_S4x96x192x192x4),
   StableHlo.TRef.binary φ.v37 φ.v38 φ.v39 addi]

/-- Four mixing rounds and a key addition. -/
def group1 (arg0 arg1 : StableHlo.TRef sig ⟨S_, .i32⟩) (arg2 arg3 : StableHlo.TRef sig ⟨S4x96x192x192x4, .i32⟩) (φ : fn_threefry2x32.Bufs) : List (HloOp τ sig (Elt F)) :=
  [StableHlo.TRef.binary φ.v35 φ.v39 φ.v40 addi,
   StableHlo.TRef.nullary φ.c_9 (constantI S_ 32 17#32),
   StableHlo.TRef.unary φ.c_9 φ.v41 (broadcastInDim S4x96x192x192x4 ![] bcast_S_S4x96x192x192x4),
   StableHlo.TRef.binary φ.v39 φ.v41 φ.v42 Host.shli,
   StableHlo.TRef.nullary φ.c_10 (constantI S_ 32 15#32),
   StableHlo.TRef.unary φ.c_10 φ.v43 (broadcastInDim S4x96x192x192x4 ![] bcast_S_S4x96x192x192x4),
   StableHlo.TRef.binary φ.v39 φ.v43 φ.v44 Host.shrui,
   StableHlo.TRef.binary φ.v42 φ.v44 φ.v45 ori,
   StableHlo.TRef.binary φ.v40 φ.v45 φ.v46 xori,
   StableHlo.TRef.binary φ.v40 φ.v46 φ.v47 addi,
   StableHlo.TRef.nullary φ.c_11 (constantI S_ 32 29#32),
   StableHlo.TRef.unary φ.c_11 φ.v48 (broadcastInDim S4x96x192x192x4 ![] bcast_S_S4x96x192x192x4),
   StableHlo.TRef.binary φ.v46 φ.v48 φ.v49 Host.shli,
   StableHlo.TRef.nullary φ.c_12 (constantI S_ 32 3#32),
   StableHlo.TRef.unary φ.c_12 φ.v50 (broadcastInDim S4x96x192x192x4 ![] bcast_S_S4x96x192x192x4),
   StableHlo.TRef.binary φ.v46 φ.v50 φ.v51 Host.shrui,
   StableHlo.TRef.binary φ.v49 φ.v51 φ.v52 ori,
   StableHlo.TRef.binary φ.v47 φ.v52 φ.v53 xori,
   StableHlo.TRef.binary φ.v47 φ.v53 φ.v54 addi,
   StableHlo.TRef.nullary φ.c_13 (constantI S_ 32 16#32),
   StableHlo.TRef.unary φ.c_13 φ.v55 (broadcastInDim S4x96x192x192x4 ![] bcast_S_S4x96x192x192x4),
   StableHlo.TRef.binary φ.v53 φ.v55 φ.v56 Host.shli,
   StableHlo.TRef.nullary φ.c_14 (constantI S_ 32 16#32),
   StableHlo.TRef.unary φ.c_14 φ.v57 (broadcastInDim S4x96x192x192x4 ![] bcast_S_S4x96x192x192x4),
   StableHlo.TRef.binary φ.v53 φ.v57 φ.v58 Host.shrui,
   StableHlo.TRef.binary φ.v56 φ.v58 φ.v59 ori,
   StableHlo.TRef.binary φ.v54 φ.v59 φ.v60 xori,
   StableHlo.TRef.binary φ.v54 φ.v60 φ.v61 addi,
   StableHlo.TRef.nullary φ.c_15 (constantI S_ 32 24#32),
   StableHlo.TRef.unary φ.c_15 φ.v62 (broadcastInDim S4x96x192x192x4 ![] bcast_S_S4x96x192x192x4),
   StableHlo.TRef.binary φ.v60 φ.v62 φ.v63 Host.shli,
   StableHlo.TRef.nullary φ.c_16 (constantI S_ 32 8#32),
   StableHlo.TRef.unary φ.c_16 φ.v64 (broadcastInDim S4x96x192x192x4 ![] bcast_S_S4x96x192x192x4),
   StableHlo.TRef.binary φ.v60 φ.v64 φ.v65 Host.shrui,
   StableHlo.TRef.binary φ.v63 φ.v65 φ.v66 ori,
   StableHlo.TRef.binary φ.v61 φ.v66 φ.v67 xori,
   StableHlo.TRef.unary φ.v1 φ.v68 (broadcastInDim S4x96x192x192x4 ![] bcast_S_S4x96x192x192x4),
   StableHlo.TRef.binary φ.v61 φ.v68 φ.v69 addi,
   StableHlo.TRef.unary arg0 φ.v70 (broadcastInDim S4x96x192x192x4 ![] bcast_S_S4x96x192x192x4),
   StableHlo.TRef.binary φ.v67 φ.v70 φ.v71 addi,
   StableHlo.TRef.nullary φ.c_17 (constantI S_ 32 2#32),
   StableHlo.TRef.unary φ.c_17 φ.v72 (broadcastInDim S4x96x192x192x4 ![] bcast_S_S4x96x192x192x4),
   StableHlo.TRef.binary φ.v71 φ.v72 φ.v73 addi]

/-- Four mixing rounds and a key addition. -/
def group2 (arg0 arg1 : StableHlo.TRef sig ⟨S_, .i32⟩) (arg2 arg3 : StableHlo.TRef sig ⟨S4x96x192x192x4, .i32⟩) (φ : fn_threefry2x32.Bufs) : List (HloOp τ sig (Elt F)) :=
  [StableHlo.TRef.binary φ.v69 φ.v73 φ.v74 addi,
   StableHlo.TRef.nullary φ.c_18 (constantI S_ 32 13#32),
   StableHlo.TRef.unary φ.c_18 φ.v75 (broadcastInDim S4x96x192x192x4 ![] bcast_S_S4x96x192x192x4),
   StableHlo.TRef.binary φ.v73 φ.v75 φ.v76 Host.shli,
   StableHlo.TRef.nullary φ.c_19 (constantI S_ 32 19#32),
   StableHlo.TRef.unary φ.c_19 φ.v77 (broadcastInDim S4x96x192x192x4 ![] bcast_S_S4x96x192x192x4),
   StableHlo.TRef.binary φ.v73 φ.v77 φ.v78 Host.shrui,
   StableHlo.TRef.binary φ.v76 φ.v78 φ.v79 ori,
   StableHlo.TRef.binary φ.v74 φ.v79 φ.v80 xori,
   StableHlo.TRef.binary φ.v74 φ.v80 φ.v81 addi,
   StableHlo.TRef.nullary φ.c_20 (constantI S_ 32 15#32),
   StableHlo.TRef.unary φ.c_20 φ.v82 (broadcastInDim S4x96x192x192x4 ![] bcast_S_S4x96x192x192x4),
   StableHlo.TRef.binary φ.v80 φ.v82 φ.v83 Host.shli,
   StableHlo.TRef.nullary φ.c_21 (constantI S_ 32 17#32),
   StableHlo.TRef.unary φ.c_21 φ.v84 (broadcastInDim S4x96x192x192x4 ![] bcast_S_S4x96x192x192x4),
   StableHlo.TRef.binary φ.v80 φ.v84 φ.v85 Host.shrui,
   StableHlo.TRef.binary φ.v83 φ.v85 φ.v86 ori,
   StableHlo.TRef.binary φ.v81 φ.v86 φ.v87 xori,
   StableHlo.TRef.binary φ.v81 φ.v87 φ.v88 addi,
   StableHlo.TRef.nullary φ.c_22 (constantI S_ 32 26#32),
   StableHlo.TRef.unary φ.c_22 φ.v89 (broadcastInDim S4x96x192x192x4 ![] bcast_S_S4x96x192x192x4),
   StableHlo.TRef.binary φ.v87 φ.v89 φ.v90 Host.shli,
   StableHlo.TRef.nullary φ.c_23 (constantI S_ 32 6#32),
   StableHlo.TRef.unary φ.c_23 φ.v91 (broadcastInDim S4x96x192x192x4 ![] bcast_S_S4x96x192x192x4),
   StableHlo.TRef.binary φ.v87 φ.v91 φ.v92 Host.shrui,
   StableHlo.TRef.binary φ.v90 φ.v92 φ.v93 ori,
   StableHlo.TRef.binary φ.v88 φ.v93 φ.v94 xori,
   StableHlo.TRef.binary φ.v88 φ.v94 φ.v95 addi,
   StableHlo.TRef.nullary φ.c_24 (constantI S_ 32 6#32),
   StableHlo.TRef.unary φ.c_24 φ.v96 (broadcastInDim S4x96x192x192x4 ![] bcast_S_S4x96x192x192x4),
   StableHlo.TRef.binary φ.v94 φ.v96 φ.v97 Host.shli,
   StableHlo.TRef.nullary φ.c_25 (constantI S_ 32 26#32),
   StableHlo.TRef.unary φ.c_25 φ.v98 (broadcastInDim S4x96x192x192x4 ![] bcast_S_S4x96x192x192x4),
   StableHlo.TRef.binary φ.v94 φ.v98 φ.v99 Host.shrui,
   StableHlo.TRef.binary φ.v97 φ.v99 φ.v100 ori,
   StableHlo.TRef.binary φ.v95 φ.v100 φ.v101 xori,
   StableHlo.TRef.unary arg0 φ.v102 (broadcastInDim S4x96x192x192x4 ![] bcast_S_S4x96x192x192x4),
   StableHlo.TRef.binary φ.v95 φ.v102 φ.v103 addi,
   StableHlo.TRef.unary arg1 φ.v104 (broadcastInDim S4x96x192x192x4 ![] bcast_S_S4x96x192x192x4),
   StableHlo.TRef.binary φ.v101 φ.v104 φ.v105 addi,
   StableHlo.TRef.nullary φ.c_26 (constantI S_ 32 3#32),
   StableHlo.TRef.unary φ.c_26 φ.v106 (broadcastInDim S4x96x192x192x4 ![] bcast_S_S4x96x192x192x4),
   StableHlo.TRef.binary φ.v105 φ.v106 φ.v107 addi]

/-- Four mixing rounds and a key addition. -/
def group3 (arg0 arg1 : StableHlo.TRef sig ⟨S_, .i32⟩) (arg2 arg3 : StableHlo.TRef sig ⟨S4x96x192x192x4, .i32⟩) (φ : fn_threefry2x32.Bufs) : List (HloOp τ sig (Elt F)) :=
  [StableHlo.TRef.binary φ.v103 φ.v107 φ.v108 addi,
   StableHlo.TRef.nullary φ.c_27 (constantI S_ 32 17#32),
   StableHlo.TRef.unary φ.c_27 φ.v109 (broadcastInDim S4x96x192x192x4 ![] bcast_S_S4x96x192x192x4),
   StableHlo.TRef.binary φ.v107 φ.v109 φ.v110 Host.shli,
   StableHlo.TRef.nullary φ.c_28 (constantI S_ 32 15#32),
   StableHlo.TRef.unary φ.c_28 φ.v111 (broadcastInDim S4x96x192x192x4 ![] bcast_S_S4x96x192x192x4),
   StableHlo.TRef.binary φ.v107 φ.v111 φ.v112 Host.shrui,
   StableHlo.TRef.binary φ.v110 φ.v112 φ.v113 ori,
   StableHlo.TRef.binary φ.v108 φ.v113 φ.v114 xori,
   StableHlo.TRef.binary φ.v108 φ.v114 φ.v115 addi,
   StableHlo.TRef.nullary φ.c_29 (constantI S_ 32 29#32),
   StableHlo.TRef.unary φ.c_29 φ.v116 (broadcastInDim S4x96x192x192x4 ![] bcast_S_S4x96x192x192x4),
   StableHlo.TRef.binary φ.v114 φ.v116 φ.v117 Host.shli,
   StableHlo.TRef.nullary φ.c_30 (constantI S_ 32 3#32),
   StableHlo.TRef.unary φ.c_30 φ.v118 (broadcastInDim S4x96x192x192x4 ![] bcast_S_S4x96x192x192x4),
   StableHlo.TRef.binary φ.v114 φ.v118 φ.v119 Host.shrui,
   StableHlo.TRef.binary φ.v117 φ.v119 φ.v120 ori,
   StableHlo.TRef.binary φ.v115 φ.v120 φ.v121 xori,
   StableHlo.TRef.binary φ.v115 φ.v121 φ.v122 addi,
   StableHlo.TRef.nullary φ.c_31 (constantI S_ 32 16#32),
   StableHlo.TRef.unary φ.c_31 φ.v123 (broadcastInDim S4x96x192x192x4 ![] bcast_S_S4x96x192x192x4),
   StableHlo.TRef.binary φ.v121 φ.v123 φ.v124 Host.shli,
   StableHlo.TRef.nullary φ.c_32 (constantI S_ 32 16#32),
   StableHlo.TRef.unary φ.c_32 φ.v125 (broadcastInDim S4x96x192x192x4 ![] bcast_S_S4x96x192x192x4),
   StableHlo.TRef.binary φ.v121 φ.v125 φ.v126 Host.shrui,
   StableHlo.TRef.binary φ.v124 φ.v126 φ.v127 ori,
   StableHlo.TRef.binary φ.v122 φ.v127 φ.v128 xori,
   StableHlo.TRef.binary φ.v122 φ.v128 φ.v129 addi,
   StableHlo.TRef.nullary φ.c_33 (constantI S_ 32 24#32),
   StableHlo.TRef.unary φ.c_33 φ.v130 (broadcastInDim S4x96x192x192x4 ![] bcast_S_S4x96x192x192x4),
   StableHlo.TRef.binary φ.v128 φ.v130 φ.v131 Host.shli,
   StableHlo.TRef.nullary φ.c_34 (constantI S_ 32 8#32),
   StableHlo.TRef.unary φ.c_34 φ.v132 (broadcastInDim S4x96x192x192x4 ![] bcast_S_S4x96x192x192x4),
   StableHlo.TRef.binary φ.v128 φ.v132 φ.v133 Host.shrui,
   StableHlo.TRef.binary φ.v131 φ.v133 φ.v134 ori,
   StableHlo.TRef.binary φ.v129 φ.v134 φ.v135 xori,
   StableHlo.TRef.unary arg1 φ.v136 (broadcastInDim S4x96x192x192x4 ![] bcast_S_S4x96x192x192x4),
   StableHlo.TRef.binary φ.v129 φ.v136 φ.v137 addi,
   StableHlo.TRef.unary φ.v1 φ.v138 (broadcastInDim S4x96x192x192x4 ![] bcast_S_S4x96x192x192x4),
   StableHlo.TRef.binary φ.v135 φ.v138 φ.v139 addi,
   StableHlo.TRef.nullary φ.c_35 (constantI S_ 32 4#32),
   StableHlo.TRef.unary φ.c_35 φ.v140 (broadcastInDim S4x96x192x192x4 ![] bcast_S_S4x96x192x192x4),
   StableHlo.TRef.binary φ.v139 φ.v140 φ.v141 addi]

/-- Four mixing rounds and a key addition. -/
def group4 (arg0 arg1 : StableHlo.TRef sig ⟨S_, .i32⟩) (arg2 arg3 : StableHlo.TRef sig ⟨S4x96x192x192x4, .i32⟩) (φ : fn_threefry2x32.Bufs) : List (HloOp τ sig (Elt F)) :=
  [StableHlo.TRef.binary φ.v137 φ.v141 φ.v142 addi,
   StableHlo.TRef.nullary φ.c_36 (constantI S_ 32 13#32),
   StableHlo.TRef.unary φ.c_36 φ.v143 (broadcastInDim S4x96x192x192x4 ![] bcast_S_S4x96x192x192x4),
   StableHlo.TRef.binary φ.v141 φ.v143 φ.v144 Host.shli,
   StableHlo.TRef.nullary φ.c_37 (constantI S_ 32 19#32),
   StableHlo.TRef.unary φ.c_37 φ.v145 (broadcastInDim S4x96x192x192x4 ![] bcast_S_S4x96x192x192x4),
   StableHlo.TRef.binary φ.v141 φ.v145 φ.v146 Host.shrui,
   StableHlo.TRef.binary φ.v144 φ.v146 φ.v147 ori,
   StableHlo.TRef.binary φ.v142 φ.v147 φ.v148 xori,
   StableHlo.TRef.binary φ.v142 φ.v148 φ.v149 addi,
   StableHlo.TRef.nullary φ.c_38 (constantI S_ 32 15#32),
   StableHlo.TRef.unary φ.c_38 φ.v150 (broadcastInDim S4x96x192x192x4 ![] bcast_S_S4x96x192x192x4),
   StableHlo.TRef.binary φ.v148 φ.v150 φ.v151 Host.shli,
   StableHlo.TRef.nullary φ.c_39 (constantI S_ 32 17#32),
   StableHlo.TRef.unary φ.c_39 φ.v152 (broadcastInDim S4x96x192x192x4 ![] bcast_S_S4x96x192x192x4),
   StableHlo.TRef.binary φ.v148 φ.v152 φ.v153 Host.shrui,
   StableHlo.TRef.binary φ.v151 φ.v153 φ.v154 ori,
   StableHlo.TRef.binary φ.v149 φ.v154 φ.v155 xori,
   StableHlo.TRef.binary φ.v149 φ.v155 φ.v156 addi,
   StableHlo.TRef.nullary φ.c_40 (constantI S_ 32 26#32),
   StableHlo.TRef.unary φ.c_40 φ.v157 (broadcastInDim S4x96x192x192x4 ![] bcast_S_S4x96x192x192x4),
   StableHlo.TRef.binary φ.v155 φ.v157 φ.v158 Host.shli,
   StableHlo.TRef.nullary φ.c_41 (constantI S_ 32 6#32),
   StableHlo.TRef.unary φ.c_41 φ.v159 (broadcastInDim S4x96x192x192x4 ![] bcast_S_S4x96x192x192x4),
   StableHlo.TRef.binary φ.v155 φ.v159 φ.v160 Host.shrui,
   StableHlo.TRef.binary φ.v158 φ.v160 φ.v161 ori,
   StableHlo.TRef.binary φ.v156 φ.v161 φ.v162 xori,
   StableHlo.TRef.binary φ.v156 φ.v162 φ.v163 addi,
   StableHlo.TRef.nullary φ.c_42 (constantI S_ 32 6#32),
   StableHlo.TRef.unary φ.c_42 φ.v164 (broadcastInDim S4x96x192x192x4 ![] bcast_S_S4x96x192x192x4),
   StableHlo.TRef.binary φ.v162 φ.v164 φ.v165 Host.shli,
   StableHlo.TRef.nullary φ.c_43 (constantI S_ 32 26#32),
   StableHlo.TRef.unary φ.c_43 φ.v166 (broadcastInDim S4x96x192x192x4 ![] bcast_S_S4x96x192x192x4),
   StableHlo.TRef.binary φ.v162 φ.v166 φ.v167 Host.shrui,
   StableHlo.TRef.binary φ.v165 φ.v167 φ.v168 ori,
   StableHlo.TRef.binary φ.v163 φ.v168 φ.v169 xori,
   StableHlo.TRef.unary φ.v1 φ.v170 (broadcastInDim S4x96x192x192x4 ![] bcast_S_S4x96x192x192x4),
   StableHlo.TRef.binary φ.v163 φ.v170 φ.v171 addi,
   StableHlo.TRef.unary arg0 φ.v172 (broadcastInDim S4x96x192x192x4 ![] bcast_S_S4x96x192x192x4),
   StableHlo.TRef.binary φ.v169 φ.v172 φ.v173 addi,
   StableHlo.TRef.nullary φ.c_44 (constantI S_ 32 5#32),
   StableHlo.TRef.unary φ.c_44 φ.v174 (broadcastInDim S4x96x192x192x4 ![] bcast_S_S4x96x192x192x4),
   StableHlo.TRef.binary φ.v173 φ.v174 φ.v175 addi]

/-- From the random words to the perturbed logarithms. -/
def midOps : List (HloOp τ sig (Elt F)) :=
  [StableHlo.binary main_v38_0 main_v38_1 main_v39 (xori : (C F S4x96x192x192x4 .i32) → (C F S4x96x192x192x4 .i32) → (C F S4x96x192x192x4 .i32)),
   StableHlo.nullary main_c_8 (constantI S_ 32 9#32),
   StableHlo.unary main_c_8 main_v40 (broadcastInDim S4x96x192x192x4 ![] bcast_S_S4x96x192x192x4 : (C F S_ .i32) → (C F S4x96x192x192x4 .i32)),
   StableHlo.binary main_v39 main_v40 main_v41 (Host.shrui : (C F S4x96x192x192x4 .i32) → (C F S4x96x192x192x4 .i32) → (C F S4x96x192x192x4 .i32)),
   StableHlo.nullary main_c_9 (constantI S_ 32 1065353216#32),
   StableHlo.unary main_c_9 main_v42 (broadcastInDim S4x96x192x192x4 ![] bcast_S_S4x96x192x192x4 : (C F S_ .i32) → (C F S4x96x192x192x4 .i32)),
   StableHlo.binary main_v41 main_v42 main_v43 (ori : (C F S4x96x192x192x4 .i32) → (C F S4x96x192x192x4 .i32) → (C F S4x96x192x192x4 .i32)),
   StableHlo.unary main_v43 main_v44 (bitcastToFloat .f32 : (C F S4x96x192x192x4 .i32) → (C F S4x96x192x192x4 .f32)),
   StableHlo.nullary main_cst (constant S_ .f32 0x3F800000#32),
   StableHlo.unary main_cst main_v45 (broadcastInDim S4x96x192x192x4 ![] bcast_S_S4x96x192x192x4 : (C F S_ .f32) → (C F S4x96x192x192x4 .f32)),
   StableHlo.binary main_v44 main_v45 main_v46 (subf : (C F S4x96x192x192x4 .f32) → (C F S4x96x192x192x4 .f32) → (C F S4x96x192x192x4 .f32)),
   StableHlo.nullary main_cst_10 (constant S_ .f32 0x00800000#32),
   StableHlo.unary main_cst_10 main_v47 (broadcastInDim S4x96x192x192x4 ![] bcast_S_S4x96x192x192x4 : (C F S_ .f32) → (C F S4x96x192x192x4 .f32)),
   StableHlo.binary main_v46 main_v47 main_v48 (maximumf : (C F S4x96x192x192x4 .f32) → (C F S4x96x192x192x4 .f32) → (C F S4x96x192x192x4 .f32)),
   StableHlo.unary main_v48 main_v49 (Host.log : (C F S4x96x192x192x4 .f32) → (C F S4x96x192x192x4 .f32)),
   StableHlo.unary main_v49 main_v50 (Host.negf : (C F S4x96x192x192x4 .f32) → (C F S4x96x192x192x4 .f32)),
   StableHlo.unary main_v50 main_v51 (Host.log : (C F S4x96x192x192x4 .f32) → (C F S4x96x192x192x4 .f32)),
   StableHlo.unary main_v51 main_v52 (Host.negf : (C F S4x96x192x192x4 .f32) → (C F S4x96x192x192x4 .f32)),
   StableHlo.binary main_v3 main_v52 main_v53 (addf : (C F S4x96x192x192x4 .f32) → (C F S4x96x192x192x4 .f32) → (C F S4x96x192x192x4 .f32))]

/-- The index of the largest. -/
def argOps (arg0 : StableHlo.TRef sig ⟨S4x96x192x192x4, .f32⟩) (φ : fn_argmax.Bufs) : List (HloOp τ sig (Elt F)) :=
  [StableHlo.TRef.nullary φ.v0 (iotaInDim S4x96x192x192x4 32 4),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S4x96x192x192x4_S4x96x192x192_d4 h_S_ j).1),
   StableHlo.TRef.quaternary arg0 φ.v0 φ.cst φ.c φ.v1_1 (fun x y u v j => (Host.argReduce reducer_argmax_f32_i32 x y u v reducesTo_S4x96x192x192x4_S4x96x192x192_d4 h_S_ j).2)]

/-- The index as a float. -/
def lastOps : List (HloOp τ sig (Elt F)) :=
  [StableHlo.unary main_v54 main_v55 (sitofp .f32 : (C F S4x96x192x192 .i32) → (C F S4x96x192x192 .f32))]

/-- The random words' operations. -/
abbrev hashOps : List (HloOp τ sig (Elt F)) :=
  group0 (.of main_v12) (.of main_v14) (.of main_v37) (.of main_v36) main_call0 ++
    (group1 (.of main_v12) (.of main_v14) (.of main_v37) (.of main_v36) main_call0 ++
      (group2 (.of main_v12) (.of main_v14) (.of main_v37) (.of main_v36) main_call0 ++
        (group3 (.of main_v12) (.of main_v14) (.of main_v37) (.of main_v36) main_call0 ++
          group4 (.of main_v12) (.of main_v14) (.of main_v37) (.of main_v36) main_call0)))

/-- The whole reference. -/
abbrev refOps : List (HloOp τ sig (Elt F)) := preOps ++ (hashOps ++ (midOps ++ (argOps (.of main_v53) main_call1 ++ lastOps)))

set_option maxRecDepth 20000 in
theorem threefry_eq (arg0 arg1 : StableHlo.TRef sig ⟨S_, .i32⟩) (arg2 arg3 : StableHlo.TRef sig ⟨S4x96x192x192x4, .i32⟩) (φ : fn_threefry2x32.Bufs) :
    fn_threefry2x32.body (F := F) arg0 arg1 arg2 arg3 φ = StableHlo.seq (group0 arg0 arg1 arg2 arg3 φ ++ (group1 arg0 arg1 arg2 arg3 φ ++
      (group2 arg0 arg1 arg2 arg3 φ ++ (group3 arg0 arg1 arg2 arg3 φ ++ group4 arg0 arg1 arg2 arg3 φ)))) := by
  rfl

set_option maxRecDepth 20000 in
/-- The reference is its operations in sequence. -/
theorem main_eq (d : Dev nD) : main (F := F) d = StableHlo.seq refOps := by
  rfl

theorem refOps_sub : (refOps (F := F)).Forall fun op => op.bufs ⊆ StableHlo.tcRefs τ sig := by
  simp only [refOps, hashOps, preOps, midOps, argOps, lastOps, group0, group1, group2, group3, group4, List.cons_append, List.nil_append, List.forall_cons,
    List.Forall, StableHlo.nullary_bufs_sub, StableHlo.unary_bufs_sub, StableHlo.binary_bufs_sub, StableHlo.quaternary_bufs_sub, StableHlo.reshape_bufs_sub, and_self]

set_option maxRecDepth 20000 in
theorem refOps_fresh : (refOps (F := F)).Forall fun op => op.fresh = ∅ := StableHlo.forall_fresh_of_map rfl

variable (m : (ℓ : Loc nD τ sig) → Buf (Elt F) ℓ) (ρ : Dev nD → PrngReg)

/-- The buffers after the reference. -/
def VR (d : Dev nD) : Valuation τ sig (Elt F) := StableHlo.after refOps (StableHlo.launchContents m d)

/-- The reference's run: every buffer at what its operations leave, every counter at zero. -/
theorem run_ref : θ_run (defs (F := F)) (onTc (τ := τ) (main (F := F))) ⟨m, fun _ => 0, ρ⟩ fun r =>
    (∀ (d : Dev nD) (b : Ref sig .tc), r.2.mem ((d.tc : Thread nD τ).loc b) = VR m d (Proc.devRef .tc b)) :=
  StableHlo.run_hlo defs main main_eq (by decide) (by decide) refOps_sub (fun op h => (List.forall_iff_forall_mem.mp refOps_fresh) op h) m ρ

end Cert.Proof.Ref
end
-- ==== Proof.Frames.lean ====
/-
  The three programs' frames: each runs to its end, its argument unchanged, every counter at zero.
-/
module

public import proofs.«01_k».proof.Proof.Main
public import proofs.«01_k».proof.Proof.RefOps
public import proofs.«01_k».proof.Proof.Gen.Kernel
public import Idealize.ShloMosaic.Lib.Quiescent

@[expose] public section

noncomputable section

namespace Cert.Proof

open Idealize.ShloMosaic Idealize.SL.Sem

/-- The idealized kernel's frame. -/
theorem frame_ideal : Cert.quiescent_KernelIdeal := fun m ρ _ =>
  (θ_run Cert.KernelIdeal.defs _ _).mono (fun _ h => ⟨fun c => (h.1 c).1, h.2⟩) (run_main (F := Ideal) m ρ)

/-- The bodies of the calls are the same in the kernel and in its idealized form. -/
theorem bodies_eq : Cert.Kernel.defs₀ (F := Bits) = Cert.KernelIdeal.defs₀ := by
  funext p ℓ a
  cases p
  all_goals
    obtain ⟨ℓ, hℓ⟩ := ℓ
    rcases ℓ with _ | _ | ℓ
  all_goals first | rfl | exact absurd hℓ (by simp)

/-- So are all its definitions. -/
theorem defs_eq : Cert.Kernel.defs (F := Bits) = Cert.KernelIdeal.defs :=
  congrArg (fun e => (Cert.KernelIdeal.sc (F := Bits)).defs (Pipeline.defs Cert.KernelIdeal.pcfgs e)) bodies_eq

/-- The kernel's frame: the same text at the bit-exact floats. -/
theorem frame_kernel : Cert.quiescent_Kernel := fun m ρ _ => by
  have h : θ_run (Cert.Kernel.defs (F := Bits)) (Cert.Kernel.threads (F := Bits)) ⟨m, fun _ => 0, ρ⟩ (QC (F := Bits) m) := by
    rw [defs_eq]
    exact run_main (F := Bits) m ρ
  exact (θ_run Cert.Kernel.defs _ _).mono (fun _ h => ⟨fun c => (h.1 c).1, h.2⟩) h

/-- The reference never writes its argument. -/
theorem ref_arg {F : FTy → Type} [FloatOps F] (m : (ℓ : Loc Cert.ReferenceIdeal.nD Cert.ReferenceIdeal.τ Cert.ReferenceIdeal.sig) → Buf (Elt F) ℓ)
    (d : Dev Cert.ReferenceIdeal.nD) :
    Ref.VR m d (Proc.devRef .tc Cert.ReferenceIdeal.main_arg0) = m (d, Proc.devRef .tc Cert.ReferenceIdeal.main_arg0) := by
  unfold Ref.VR
  after_reads_simp

/-- The reference's run with its counters. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v55) = Ref.VR m c (Proc.devRef .tc Cert.ReferenceIdeal.main_v55)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0 :=
  (θ_run Cert.ReferenceIdeal.defs _ _).mono
    (fun r h => ⟨fun c => ⟨h c _, (h c Cert.ReferenceIdeal.main_arg0).trans (ref_arg m c)⟩, sem_eq_zero_of_no_sems rfl r.2⟩) (Ref.run_ref m ρ)

/-- The reference's frame. -/
theorem frame_reference : Cert.quiescent_ReferenceIdeal := fun m ρ _ =>
  (θ_run Cert.ReferenceIdeal.defs _ _).mono (fun _ h => ⟨fun c => (h.1 c).2, h.2⟩) (run_reference m ρ)

end Cert.Proof
end
-- ==== Proof.Precondition.lean ====
/-
  The precondition "no element of the input is negative": the shape relations its operations take, and what it says of
  one element over the exact reals.
-/
module

public import proofs.«01_k».proof.Pre_x_nonneg
public import Idealize.ShloMosaic.Lib.IdealHost
public import Idealize.ShloMosaic.Lib.ReduceAll

@[expose] public section

noncomputable section

namespace Cert.Proof

open Idealize.ShloMosaic

/-- The shape relations of the precondition's broadcast and reduction. -/
instance preFacts : Cert.Pre_x_nonneg.Facts where
  bcast_S_S4x96x384x384 := by decide
  reducesTo_S4x96x384x384_S_d0_1_2_3 := by decide
  h_S_ := by decide

/-- The comparison "at least" over the exact reals, when it came out true. -/
theorem le_of_oge (a b : EReal) (h : FloatOps.cmpf (F := Ideal) (φ := .f32) .oge a b = 1#1) : b ≤ a := by
  change Ideal.cmp .oge a b = 1#1 at h
  by_contra hn
  simp [Ideal.cmp, hn] at h

/-- The precondition compares each element with zero. -/
theorem compared_of_pre {F : FTy → Type} [FloatOps F] (x : Vec F Cert.Pre_x_nonneg.S4x96x384x384 .f32)
    (h : Cert.Pre_x_nonneg.fn (F := F) x = fun _ => 1#1) (i : Cert.Pre_x_nonneg.S4x96x384x384.Idx) :
    FloatOps.cmpf (φ := .f32) .oge (x i) (FloatOps.ofBits .f32 0x00000000#32) = 1#1 := by
  haveI : Subsingleton Cert.Pre_x_nonneg.S_.Idx := ⟨fun a b => funext fun k => k.elim0⟩
  unfold Cert.Pre_x_nonneg.fn at h
  have e := congrFun h (Shape.Idx.first Cert.Pre_x_nonneg.Facts.h_S_)
  exact Host.reduce_andi_all _ _ _ _ _ e i

/-- The precondition, at an element. -/
theorem nonneg_of_pre (x : Vec Ideal Cert.Pre_x_nonneg.S4x96x384x384 .f32) (h : Cert.Pre_x_nonneg.fn (F := Ideal) x = fun _ => 1#1)
    (i : Cert.Pre_x_nonneg.S4x96x384x384.Idx) : (0 : EReal) ≤ x i :=
  (le_of_eq Ideal.ofBits_zero_f32.symm).trans (le_of_oge _ _ (compared_of_pre x h i))

end Cert.Proof
end
-- ==== Proof.TcThin.lean ====
/-
  The two selection products at exact reals: a plane through them keeps every other row and column.
-/
module

public import proofs.«01_k».proof.Proof.TcRun
public import Idealize.ShloMosaic.Lib.StableHlo.ReadAt
public import Idealize.ShloMosaic.Lib.MatmulPlain
public import Idealize.ShloMosaic.Lib.KernelVsHost
public import Idealize.ShloMosaic.PureOps.Ideal.Laws

@[expose] public section

noncomputable section

namespace Cert.Proof.Tc

open Idealize.ShloMosaic Idealize.SL.Sem
open Cert.KernelIdeal Cert.KernelIdeal.Gen

/-- The indicator of a position twice another, as the selections compute it. -/
theorem twice (k c : Nat) (hk : k < 384) (hc : c < 192) :
    (FloatOps.sitofp .f32 (BitVec.setWidth 32 (IntOp.cmpi .eq (BitVec.ofNat 32 k) (IntOp.muli (BitVec.ofNat 32 c) 2#32))) : Ideal .f32)
      = if k = 2 * c then 1 else 0 := by
  have e : IntOp.cmpi .eq (BitVec.ofNat 32 k) (IntOp.muli (BitVec.ofNat 32 c) 2#32) = if k = 2 * c then 1#1 else 0#1 := by
    have h1 : IntOp.muli (BitVec.ofNat 32 c) 2#32 = BitVec.ofNat 32 (c * 2) := (BitVec.ofNat_mul _ _).symm
    rw [h1]
    by_cases h : k = 2 * c
    · rw [if_pos h, h, Nat.mul_comm]; simp [IntOp.cmpi]
    · rw [if_neg h]
      have : BitVec.ofNat 32 k ≠ BitVec.ofNat 32 (c * 2) := fun h' => h (by
        have := congrArg BitVec.toNat h'
        simp only [BitVec.toNat_ofNat] at this
        omega)
      show BitVec.ofBool (BitVec.ofNat 32 k == BitVec.ofNat 32 (c * 2)) = 0#1
      rw [beq_eq_false_iff_ne.2 this]; rfl
  rw [e]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

theorem colSel_at (k : Fin 384) (c : Fin 192) : (colSel (F := Ideal) (ix2 k c) : EReal) = if k.val = 2 * c.val then 1 else 0 := by
  unfold colSel
  pointwise
  exact twice k.val c.val k.isLt c.isLt

theorem rowSel_at (r : Fin 192) (k : Fin 384) : (rowSel (F := Ideal) (ix2 r k) : EReal) = if k.val = 2 * r.val then 1 else 0 := by
  unfold rowSel
  pointwise
  exact twice k.val r.val k.isLt r.isLt

/-- Twice a position. -/
abbrev dbl (c : Fin 192) : Fin 384 := ⟨2 * c.val, by omega⟩

theorem zero_acc {s : Shape} (i : s.Idx) : (constant s .f32 0x00000000#32 i : Ideal .f32) = (0 : EReal) := Ideal.ofBits_zero_f32

/-- The two spellings of an index by its coordinates. -/
theorem ix2_spell {n m : Nat} (a : Fin n) (b : Fin m) : ValueIdx.ix2 a b = ix2 a b := by
  funext x
  match x with
  | ⟨0, _⟩ => rfl
  | ⟨1, _⟩ => rfl

theorem thin_at (w : FVec Ideal S384x384 .f32) (r c : Fin 192) : thin w (ix2 r c) = w (ix2 (dbl r) (dbl c)) := by
  have inner : ∀ k : Fin 384, matmul dot_S384x384_S384x192_S384x192_1_0_0_1_n_n none w colSel (constant S384x192 .f32 0x00000000#32) (ix2 k c)
      = w (ix2 k (dbl c)) := by
    intro k
    refine (Ideal.matmul_plain_apply none w colSel _ k c).trans ?_
    simp only [ix2_spell]
    rw [zero_acc, zero_add, Finset.sum_eq_single (dbl c)]
    · rw [colSel_at, if_pos rfl, mul_one]
    · intro l _ hl
      rw [colSel_at, if_neg (fun h => hl (Fin.ext h)), mul_zero]
    · intro h; exact absurd (Finset.mem_univ _) h
  unfold thin
  refine (Ideal.matmul_plain_apply none rowSel _ _ r c).trans ?_
  simp only [ix2_spell]
  rw [zero_acc, zero_add, Finset.sum_eq_single (dbl r)]
  · rw [rowSel_at, if_pos rfl, one_mul, inner]
  · intro l _ hl
    rw [rowSel_at, if_neg (fun h => hl (Fin.ext h)), zero_mul]
  · intro h; exact absurd (Finset.mem_univ _) h

section
variable {F : FTy → Type} [FloatOps F]

/-- The next place along the rows and along the columns. -/
theorem down_at (s : FVec F S8x384x384 .f32) (b : Fin 8) (r c : Fin 384) (hr : r.val + 1 < 384) :
    down s (ix3 b r c) = s (ix3 b ⟨r.val + 1, hr⟩ c) := by
  unfold down
  refine dynamicRotate_apply _ _ _ _ _ _ fun a => ?_
  match a with
  | 0 => rfl
  | 1 =>
    show r.val + 1 = (r.val + 384 - 383 % 384) % 384
    omega
  | 2 => rfl
theorem right_at (s : FVec F S8x384x384 .f32) (b : Fin 8) (r c : Fin 384) (hc : c.val + 1 < 384) :
    right s (ix3 b r c) = s (ix3 b r ⟨c.val + 1, hc⟩) := by
  unfold right
  refine dynamicRotate_apply _ _ _ _ _ _ fun a => ?_
  match a with
  | 0 => rfl
  | 1 => rfl
  | 2 =>
    show c.val + 1 = (c.val + 384 - 383 % 384) % 384
    omega
end

/-- The block of indices at a place: the first largest of the four scores under it. -/
theorem outBlock_at (i : grid0.Coords) (v : Vec Ideal S8x384x384 .f32) (fb : Vec Ideal S8x384x384 .i32) (b : Fin 8) (r c : Fin 192) :
    outBlock (F := Ideal) i v fb (ix3 b r c) = pick (F := Ideal) (scores (F := Ideal) i v fb (ix3 b (dbl r) (dbl c))) (scores (F := Ideal) i v fb (ix3 b (dbl r) ⟨2 * c.val + 1, by omega⟩))
      (scores (F := Ideal) i v fb (ix3 b ⟨2 * r.val + 1, by omega⟩ (dbl c))) (scores (F := Ideal) i v fb (ix3 b ⟨2 * r.val + 1, by omega⟩ ⟨2 * c.val + 1, by omega⟩)) := by
  have e : outBlock (F := Ideal) i v fb (ix3 b r c) = picked (F := Ideal) (scores (F := Ideal) i v fb) (ix3 b (dbl r) (dbl c)) :=
    thin_at (planeAt (picked (F := Ideal) (scores (F := Ideal) i v fb)) b) r c
  have hr := r.isLt
  have hc := c.isLt
  rw [e]
  unfold picked
  rw [right_at _ _ _ _ (by show 2 * c.val + 1 < 384; omega), down_at _ _ _ _ (by show 2 * r.val + 1 < 384; omega),
    right_at _ _ _ _ (by show 2 * c.val + 1 < 384; omega), down_at _ _ _ _ (by show 2 * r.val + 1 < 384; omega)]

end Cert.Proof.Tc
end
-- ==== Proof.TcValue.lean ====
/-
  What the TensorCore leaves on its channels, at exact reals.
-/
module

public import proofs.«01_k».proof.Proof.TcThin
public import proofs.«01_k».proof.Proof.TcRegion
public import proofs.«01_k».proof.Proof.HostOps
public import proofs.«01_k».proof.Proof.ScValue
public import Idealize.ShloMosaic.Lib.Pipeline.ValueKit.Geometry

@[expose] public section

noncomputable section

namespace Cert.Proof.Tc

open Idealize.ShloMosaic Idealize.SL Idealize.SL.Sem
open Idealize.ShloMosaic.TcCoe
open Cert.KernelIdeal Cert.KernelIdeal.Gen

section Any
variable {F : FTy → Type} [FloatOps F]

/-- An output element of a channel out of the whole input. -/
def cellOut (X : Vec F S384x384x384 .f32) : Vec F S384x192x192 .f32 := fun z =>
  have h1 : (z 1).val < 192 := (z 1).isLt
  have h2 : (z 2).val < 192 := (z 2).isLt
  let at' (a b : Nat) (ha : a < 2) (hb : b < 2) : F .f32 :=
    X (ix3 (n0 := 384) (n1 := 384) (n2 := 384) (z 0) ⟨2 * (z 1).val + a, by omega⟩ ⟨2 * (z 2).val + b, by omega⟩)
  cell (at' 0 0 (by decide) (by decide)) (at' 0 1 (by decide) (by decide)) (at' 1 0 (by decide) (by decide)) (at' 1 1 (by decide) (by decide))
    (ctr (z 0).val (z 1).val (z 2).val)

variable (V : (c : Dev nD) → (b : Ref sig .tc) → Buf (Elt F) ((c : Thread nD τ).loc b))

theorem point_val (t : Fin cfg0.N) : ((grid0.coords t) 0).val = t.val := by
  revert t; decide +kernel

theorem xBlk_at (c : Dev nD) (t : Fin cfg0.N) (b : Fin 8) (r col : Fin 384) (h : 8 * t.val + b.val < 384) :
    xBlk V c t (ix3 b r col) = V c main_v0 (ix3 ⟨8 * t.val + b.val, h⟩ r col) := by
  show V c main_v0 ((win0_0.blk t).view.emb (ix3 b r col)) = _
  refine congrArg (V c main_v0) (funext fun a => Fin.ext ?_)
  refine (ValueKit.rect_emb_unit_val _ _ _ _ a).trans ?_
  have ht : t.val < 37 := t.isLt
  match a with
  | ⟨0, _⟩ =>
    show (BitVec.ofNat 32 (grid0.coords t 0).val).toNat * 8 + b.val = 8 * t.val + b.val
    rw [point_val, BitVec.toNat_ofNat]; omega
  | ⟨1, _⟩ => exact Nat.zero_add _
  | ⟨2, _⟩ => exact Nat.zero_add _

theorem fBlk_at (c : Dev nD) (t : Fin cfg0.N) (z : S8x384x384.Idx) : fBlk V c t z = V c main_v21 z := by
  show V c main_v21 ((win0_1.blk t).view.emb z) = _
  refine congrArg (V c main_v21) (funext fun a => Fin.ext ?_)
  refine (ValueKit.rect_emb_unit_val _ _ _ _ a).trans ?_
  match a with
  | ⟨0, _⟩ => exact Nat.zero_add _
  | ⟨1, _⟩ => exact Nat.zero_add _
  | ⟨2, _⟩ => exact Nat.zero_add _

theorem oBlk_at (t : Fin cfg0.N) (b : Fin 8) (r c : Fin 192) (h : 8 * t.val + b.val < 384) :
    (win0_2.blk t).view.emb (ix3 b r c) = (ix3 ⟨8 * t.val + b.val, h⟩ r c : S384x192x192.Idx) := by
  refine funext fun a => Fin.ext ?_
  refine (ValueKit.rect_emb_unit_val _ _ _ _ a).trans ?_
  have ht : t.val < 37 := t.isLt
  match a with
  | ⟨0, _⟩ =>
    show (BitVec.ofNat 32 (grid0.coords t 0).val).toNat * 8 + b.val = 8 * t.val + b.val
    rw [point_val, BitVec.toNat_ofNat]; omega
  | ⟨1, _⟩ => exact Nat.zero_add _
  | ⟨2, _⟩ => exact Nat.zero_add _

theorem sub_words (a b : Nat) (h : b ≤ a) (ha : a < 4294967296) :
    IntOp.subi (BitVec.ofNat 32 a) (BitVec.ofNat 32 b) = BitVec.ofNat 32 (a - b) := by
  refine BitVec.eq_of_toNat_eq ?_
  show (BitVec.ofNat 32 a - BitVec.ofNat 32 b).toNat = _
  simp only [BitVec.toNat_sub, BitVec.toNat_ofNat]
  omega
theorem mul_words (a b : Nat) : IntOp.muli (BitVec.ofNat 32 a) (BitVec.ofNat 32 b) = BitVec.ofNat 32 (a * b) := (BitVec.ofNat_mul a b).symm
theorem add_words (a b : Nat) : IntOp.addi (BitVec.ofNat 32 a) (BitVec.ofNat 32 b) = BitVec.ofNat 32 (a + b) := (BitVec.ofNat_add a b).symm
theorem parity_word (a : Nat) (h : a < 384) : IntOp.andi (BitVec.ofNat 32 a) 1#32 = BitVec.ofNat 32 (a % 2) := by
  refine BitVec.eq_of_toNat_eq ?_
  show (BitVec.ofNat 32 a &&& 1#32).toNat = _
  rw [BitVec.toNat_and]
  simp only [BitVec.toNat_ofNat]
  rw [show (1 % 2 ^ 32 : Nat) = 1 from rfl, Nat.and_one_is_mod]
  omega

/-- The table of counters at a place. -/
theorem table_at (W : Valuation τ sig (Elt F)) (b : Fin 8) (r c : Fin 384) :
    StableHlo.after opsA W (Proc.devRef .tc main_v21) (ix3 b r c)
      = BitVec.ofNat 32 (b.val * 147456 + r.val * 384 - r.val % 2 * 382 + 2 * c.val - c.val % 2 + 42) := by
  after_reads_at
  have hb := b.isLt
  have hr := r.isLt
  have hc := c.isLt
  rw [parity_word _ r.isLt, parity_word _ c.isLt]
  simp only [mul_words, add_words]
  rw [sub_words _ _ (by omega) (by omega)]
  simp only [add_words]
  rw [sub_words _ _ (by omega) (by omega)]
  simp only [add_words]

theorem x_at (W : Valuation τ sig (Elt F)) (z : S384x384x384.Idx) :
    StableHlo.after opsA W (Proc.devRef .tc main_v0) z
      = W (Proc.devRef .tc main_arg0) (ix4 (n0 := 4) (n1 := 96) (n2 := 384) (n3 := 384) ⟨(z 0).val / 96, by have h : (z 0).val < 384 := (z 0).isLt; omega⟩ ⟨(z 0).val % 96, Nat.mod_lt _ (by decide)⟩ (z 1) (z 2)) := by
  after_reads_at

/-- A score of a block, its element in the whole input and its counter out of the table. -/
theorem score_at (W : Valuation τ sig (Elt F)) (c : Dev nD)
    (hf : V c main_v21 = StableHlo.after opsA W (Proc.devRef .tc main_v21)) (t : Fin cfg0.N) (b : Fin 8) (r col : Fin 384)
    (h : 8 * t.val + b.val < 384) (n : Nat)
    (hn : (8 * t.val + b.val) * 147456 + r.val * 384 - r.val % 2 * 382 + 2 * col.val - col.val % 2 + 42 = n) :
    scores (grid0.coords t) (xBlk V c t) (fBlk V c t) (ix3 b r col)
      = score (V c main_v0 (ix3 ⟨8 * t.val + b.val, h⟩ r col) : F .f32) (BitVec.ofNat 32 n) := by
  have hr := r.isLt
  unfold scores
  rw [xBlk_at V c t b r col h, fBlk_at, hf, table_at]
  have e : base (grid0.coords t) = BitVec.ofNat 32 (t.val * 8 * 147456) := by
    unfold base
    rw [point_val]
    show Scalar.muli (Scalar.muli (BitVec.ofNat 32 t.val) (BitVec.ofNat 32 8)) (BitVec.ofNat 32 147456) = _
    rw [Sc.muli_ofNat, Sc.muli_ofNat]
  rw [e, add_words, ← hn]
  congr 2
  omega

end Any

variable (V : (c : Dev nD) → (b : Ref sig .tc) → Buf (Elt Ideal) ((c : Thread nD τ).loc b))

/-- A block of the output, out of the whole input. -/
theorem block_at (W : Valuation τ sig (Elt Ideal)) (c : Dev nD)
    (hf : V c main_v21 = StableHlo.after opsA W (Proc.devRef .tc main_v21)) (t : Fin cfg0.N) (b : Fin 8) (r col : Fin 192)
    (h : 8 * t.val + b.val < 384) :
    outBlock (F := Ideal) (grid0.coords t) (xBlk V c t) (fBlk V c t) (ix3 b r col)
      = cellOut (F := Ideal) (V c main_v0) (ix3 ⟨8 * t.val + b.val, h⟩ r col) := by
  have hr := r.isLt
  have hc := col.isLt
  rw [outBlock_at,
    score_at V W c hf t b (dbl r) (dbl col) h (ctr (8 * t.val + b.val) r.val col.val) (by unfold ctr; show (8 * t.val + b.val) * 147456 + 2 * r.val * 384 - 2 * r.val % 2 * 382 + 2 * (2 * col.val) - 2 * col.val % 2 + 42 = _; omega),
    score_at V W c hf t b (dbl r) ⟨2 * col.val + 1, by omega⟩ h (ctr (8 * t.val + b.val) r.val col.val + 1) (by unfold ctr; show (8 * t.val + b.val) * 147456 + 2 * r.val * 384 - 2 * r.val % 2 * 382 + 2 * (2 * col.val + 1) - (2 * col.val + 1) % 2 + 42 = _; omega),
    score_at V W c hf t b ⟨2 * r.val + 1, by omega⟩ (dbl col) h (ctr (8 * t.val + b.val) r.val col.val + 2) (by unfold ctr; show (8 * t.val + b.val) * 147456 + (2 * r.val + 1) * 384 - (2 * r.val + 1) % 2 * 382 + 2 * (2 * col.val) - 2 * col.val % 2 + 42 = _; omega),
    score_at V W c hf t b ⟨2 * r.val + 1, by omega⟩ ⟨2 * col.val + 1, by omega⟩ h (ctr (8 * t.val + b.val) r.val col.val + 3) (by unfold ctr; show (8 * t.val + b.val) * 147456 + (2 * r.val + 1) * 384 - (2 * r.val + 1) % 2 * 382 + 2 * (2 * col.val + 1) - (2 * col.val + 1) % 2 + 42 = _; omega)]
  rfl

end Cert.Proof.Tc
end
-- ==== Proof.TcArr.lean ====
/-
  The TensorCore's output array, at exact reals.
-/
module

public import proofs.«01_k».proof.Proof.TcValue

@[expose] public section

noncomputable section

namespace Cert.Proof.Tc

open Idealize.ShloMosaic Idealize.SL Idealize.SL.Sem
open Idealize.ShloMosaic.TcCoe
open Cert.KernelIdeal Cert.KernelIdeal.Gen

section Any
variable {F : FTy → Type} [FloatOps F]
variable (V : (c : Dev nD) → (b : Ref sig .tc) → Buf (Elt F) ((c : Thread nD τ).loc b))

theorem flushed_eq (c : Dev nD) (t : Fin cfg0.N) (G : Vec F S384x192x192 .f32)
    (hG : ∀ y : S8x192x192.Idx, outBlock (grid0.coords t) (xBlk V c t) (fBlk V c t) y = G ((win0_2.blk t).view.emb y)) :
    (dat V c).flushed 2 t = ((cfg0.win 2).blk t).view.read (Elt F) G := by
  funext y
  exact hG y

theorem flush_all (t : Fin cfg0.N) : (cfg0.win 2).flush t = true := by
  revert t; decide +kernel

theorem block_spell (y : S8x192x192.Idx) : y = ix3 (n0 := 8) (n1 := 192) (n2 := 192) (y 0) (y 1) (y 2) := by
  funext a
  match a with
  | ⟨0, _⟩ => rfl
  | ⟨1, _⟩ => rfl
  | ⟨2, _⟩ => rfl

theorem oBlk_eq (t : Fin cfg0.N) (y : S8x192x192.Idx) (h : 8 * t.val + (y 0).val < 384) :
    (win0_2.blk t).view.emb y = (ix3 ⟨8 * t.val + (y 0).val, h⟩ (y 1) (y 2) : S384x192x192.Idx) := by
  exact (congrArg (win0_2.blk t).view.emb (block_spell y)).trans (oBlk_at t (y 0) (y 1) (y 2) h)

/-- The array on the channels that are some point's: what the points leave there. -/
theorem arr_at (c : Dev nD) (G : Vec F S384x192x192 .f32)
    (hG : ∀ (t : Fin cfg0.N) (y : S8x192x192.Idx), outBlock (grid0.coords t) (xBlk V c t) (fBlk V c t) y = G ((win0_2.blk t).view.emb y))
    (z : S384x192x192.Idx) (hz : (z 0).val < 296) : tcArr V c z = G z := by
  let t : Fin cfg0.N := ⟨(z 0).val / 8, by show _ < 37; omega⟩
  let y : S8x192x192.Idx := ix3 (n0 := 8) (n1 := 192) (n2 := 192) ⟨(z 0).val % 8, Nat.mod_lt _ (by decide)⟩ (z 1) (z 2)
  have hb : 8 * ((z 0).val / 8) + (z 0).val % 8 = (z 0).val := Nat.div_add_mod _ _
  have hi : (win0_2.blk t).view.emb y = z := by
    refine (oBlk_eq t y (by show 8 * ((z 0).val / 8) + (z 0).val % 8 < 384; omega)).trans ?_
    funext a
    match a with
    | ⟨0, _⟩ => exact Fin.ext hb
    | ⟨1, _⟩ => rfl
    | ⟨2, _⟩ => rfl
  have hm : z ∈ ((cfg0.win 2).blk t).view.set := hi ▸ (win0_2.blk t).view.emb_mem_set y
  exact (dat V c).arrAt_apply_of_mem 2 G (fun t _ => flushed_eq V c t G (hG t)) cfg0.N t z t.isLt (flush_all t) hm

end Any

variable (V : (c : Dev nD) → (b : Ref sig .tc) → Buf (Elt Ideal) ((c : Thread nD τ).loc b))

/-- What a point leaves is the whole result's block. -/
theorem left_at (W : Valuation τ sig (Elt Ideal)) (c : Dev nD)
    (hf : V c main_v21 = StableHlo.after opsA W (Proc.devRef .tc main_v21)) (t : Fin cfg0.N) (y : S8x192x192.Idx) :
    outBlock (F := Ideal) (grid0.coords t) (xBlk V c t) (fBlk V c t) y
      = cellOut (F := Ideal) (V c main_v0) ((win0_2.blk t).view.emb y) := by
  have ht : t.val < 37 := t.isLt
  have hy : (y 0).val < 8 := (y 0).isLt
  have hlt : 8 * t.val + (y 0).val < 384 := by omega
  have e1 := congrArg (outBlock (F := Ideal) (grid0.coords t) (xBlk V c t) (fBlk V c t)) (block_spell y)
  have e2 := congrArg (cellOut (F := Ideal) (V c main_v0)) (oBlk_eq t y hlt)
  exact e1.trans ((block_at V W c hf t (y 0) (y 1) (y 2) hlt).trans e2.symm)

/-- The TensorCore's channels of the output's array. -/
theorem tcArr_at (W : Valuation τ sig (Elt Ideal)) (c : Dev nD)
    (hf : V c main_v21 = StableHlo.after opsA W (Proc.devRef .tc main_v21)) (z : S384x192x192.Idx) (hz : (z 0).val < 296) :
    tcArr V c z = cellOut (F := Ideal) (V c main_v0) z :=
  arr_at V c _ (left_at V W c hf) z hz

end Cert.Proof.Tc
end
-- ==== Proof.KernelValue.lean ====
/-
  The kernel's result at an index, at exact reals.
-/
module

public import proofs.«01_k».proof.Proof.TcArr
public import Idealize.ShloMosaic.Lib.WordCmp

@[expose] public section

noncomputable section

namespace Cert.Proof

open Idealize.ShloMosaic Idealize.SL Idealize.SL.Sem
open Idealize.ShloMosaic.TcCoe
open Cert.KernelIdeal Cert.KernelIdeal.Gen

variable {F : FTy → Type} [FloatOps F]

/-- The channel of an output element. -/
theorem chan_lt (j : S4x96x192x192.Idx) : (j 0).val * 96 + (j 1).val < 384 := by
  have h0 : (j 0).val < 4 := (j 0).isLt
  have h1 : (j 1).val < 96 := (j 1).isLt
  omega

theorem put_at (W : Valuation τ sig (Elt F)) (j : S4x96x192x192.Idx) :
    StableHlo.after opsB W (Proc.devRef .tc main_v25) j
      = if h : 296 ≤ (j 0).val * 96 + (j 1).val then
          W (Proc.devRef .tc main_v23) (ix3 (n0 := 88) (n1 := 192) (n2 := 192) ⟨(j 0).val * 96 + (j 1).val - 296, by have := chan_lt j; omega⟩ (j 2) (j 3))
        else W (Proc.devRef .tc main_v22) (ix3 (n0 := 384) (n1 := 192) (n2 := 192) ⟨(j 0).val * 96 + (j 1).val, chan_lt j⟩ (j 2) (j 3)) := by
  after_reads_simp
  rw [WordCmp.dynamicUpdateSlice_eq_update _ _ _ _ ![296, 0, 0] (by decide) (by
    intro a
    match a with
    | 0 => rfl
    | 1 => rfl
    | 2 => rfl)]
  pointwise
  have hc := chan_lt j
  by_cases h : 296 ≤ (j 0).val * 96 + (j 1).val
  · rw [dif_pos ⟨h, hc⟩, dif_pos h]
  · rw [dif_neg (fun h' => h h'.1), dif_neg h]

/-- The SparseCores' channels, as channels of the whole. -/
theorem scOut_at (X : Vec F S384x384x384 .f32) (n : Nat) (h : 296 ≤ n) (hn : n < 384) (r c : Fin 192) :
    Sc.scOut X (ix3 (n0 := 88) (n1 := 192) (n2 := 192) ⟨n - 296, by omega⟩ r c) = Tc.cellOut X (ix3 (n0 := 384) (n1 := 192) (n2 := 192) ⟨n, hn⟩ r c) := by
  obtain ⟨k, rfl⟩ := Nat.exists_eq_add_of_le h
  have e : 296 + k - 296 = k := by omega
  have e' : (ix3 (n0 := 88) (n1 := 192) (n2 := 192) ⟨296 + k - 296, by omega⟩ r c) = ix3 (n0 := 88) (n1 := 192) (n2 := 192) ⟨k, by omega⟩ r c := by
    congr 1
    exact Fin.ext e
  rw [e']
  rfl

variable (m : (ℓ : Loc nD τ sig) → Buf (Elt Ideal) ℓ)

theorem V3_tc (d : Dev nD) : V3 m d (Proc.devRef .tc main_v22) = Tc.tcArr (V1' m) d :=
  (Function.update_of_ne (fun h' => absurd (Proc.devRef_injective _ h') (by decide)) _ _).trans (V2_out m d)

/-- The kernel's result at an output element. -/
theorem kernel_at (d : Dev nD) (j : S4x96x192x192.Idx) :
    V4 m d (Proc.devRef .tc main_v25) j
      = Tc.cellOut (F := Ideal) (X m d) (ix3 (n0 := 384) (n1 := 192) (n2 := 192) ⟨(j 0).val * 96 + (j 1).val, chan_lt j⟩ (j 2) (j 3)) := by
  refine (put_at (V3 m d) j).trans ?_
  by_cases h : 296 ≤ (j 0).val * 96 + (j 1).val
  · rw [dif_pos h, V3_out]
    exact scOut_at (F := Ideal) (X m d) _ h (chan_lt j) (j 2) (j 3)
  · rw [dif_neg h, V3_tc]
    exact Tc.tcArr_at (V1' m) (fun b => m (d, b)) d rfl _ (Nat.lt_of_not_le h)

end Cert.Proof
end
-- ==== Proof.RefHash.lean ====
/-
  The reference's random words: each group of mixing rounds read at an element is the same group of the hash on words.
-/
module

public import proofs.«01_k».proof.Proof.RefOps
public import proofs.«01_k».proof.Proof.Hash
public import Idealize.ShloMosaic.Lib.StableHlo.ReadAt

@[expose] public section

noncomputable section

namespace Cert.Proof.Ref

open Idealize.ShloMosaic Idealize.SL Idealize.SL.Sem
open Cert.ReferenceIdeal Cert.ReferenceIdeal.Gen

variable {F : FTy → Type} [FloatOps F]

/-- A shift by less than the width is the same on the host and in a kernel. -/
theorem shli_unit (x y : BitVec 32) (h : y.toNat < 32) : IntOp.shli .host x y = IntOp.shli .vector x y := by
  unfold IntOp.shli; rw [if_pos h, if_pos h]
theorem shrui_unit (x y : BitVec 32) (h : y.toNat < 32) : IntOp.shrui .host x y = IntOp.shrui .vector x y := by
  unfold IntOp.shrui; rw [if_pos h, if_pos h]

/-- A round's exclusive or, its operands in the kernels' order. -/
theorem xori_sum (a b c d : BitVec 32) : IntOp.xori (IntOp.addi a b) (IntOp.ori c d) = IntOp.xori (IntOp.ori c d) (IntOp.addi a b) :=
  BitVec.xor_comm _ _

variable (V : Valuation τ sig (Elt F))

/-- The five groups at the reference's own buffers. -/
abbrev g0 : List (HloOp τ sig (Elt F)) := group0 (.of main_v12) (.of main_v14) (.of main_v37) (.of main_v36) main_call0
abbrev g1 : List (HloOp τ sig (Elt F)) := group1 (.of main_v12) (.of main_v14) (.of main_v37) (.of main_v36) main_call0
abbrev g2 : List (HloOp τ sig (Elt F)) := group2 (.of main_v12) (.of main_v14) (.of main_v37) (.of main_v36) main_call0
abbrev g3 : List (HloOp τ sig (Elt F)) := group3 (.of main_v12) (.of main_v14) (.of main_v37) (.of main_v36) main_call0
abbrev g4 : List (HloOp τ sig (Elt F)) := group4 (.of main_v12) (.of main_v14) (.of main_v37) (.of main_v36) main_call0

/-- The key's words. -/
structure Keys : Prop where
  k0 : V (Proc.devRef .tc main_v12) = fun _ => 0#32
  k1 : V (Proc.devRef .tc main_v14) = fun _ => 42#32
  k2 : V (Proc.devRef .tc main_call0_v1) = fun _ => 466689008#32

variable {V}

/-- The first group starts from the counter's two words and writes the third key word. -/
theorem group0_keys (h0 : V (Proc.devRef .tc main_v12) = fun _ => 0#32) (h1 : V (Proc.devRef .tc main_v14) = fun _ => 42#32) :
    Keys (StableHlo.after g0 V) := by
  constructor
  · after_reads_simp; exact h0
  · after_reads_simp; exact h1
  · after_reads_simp
    rw [h0, h1]
    simp -implicitDefEqProofs only [StableHlo.TRef.toBuf, StableHlo.TRef.ofBuf, cast_cast, cast_eq]
    funext i
    pointwise
    decide

theorem group0_at (h0 : V (Proc.devRef .tc main_v12) = fun _ => 0#32) (h1 : V (Proc.devRef .tc main_v14) = fun _ => 42#32)
    (k : BitVec 32 → BitVec 32 → BitVec 32) (i : S4x96x192x192x4.Idx) :
    k (StableHlo.after g0 V (Proc.devRef .tc main_call0_v35) i) (StableHlo.after g0 V (Proc.devRef .tc main_call0_v39) i)
    = groupEven (inject 42#32 466689008#32 1#32 k) (IntOp.addi (V (Proc.devRef .tc main_v37) i) 0#32)
        (IntOp.addi (V (Proc.devRef .tc main_v36) i) 42#32) := by
  have hx : IntOp.xori (IntOp.xori 0#32 42#32) 466688986#32 = 466689008#32 := by decide
  after_reads_simp
  rw [h0, h1]
  simp -implicitDefEqProofs only [StableHlo.TRef.toBuf, StableHlo.TRef.ofBuf, cast_cast, cast_eq]
  pointwise
  simp (disch := decide) only [shli_unit, shrui_unit, xori_sum, groupEven, mix, inject, rotl, hx]

theorem group1_keys (hk : Keys V) : Keys (StableHlo.after g1 V) := by
  obtain ⟨h0, h1, h2⟩ := hk
  constructor <;> after_reads_simp <;> assumption
theorem group1_at (hk : Keys V) (k : BitVec 32 → BitVec 32 → BitVec 32) (i : S4x96x192x192x4.Idx) :
    k (StableHlo.after g1 V (Proc.devRef .tc main_call0_v69) i) (StableHlo.after g1 V (Proc.devRef .tc main_call0_v73) i)
    = groupOdd (inject 466689008#32 0#32 2#32 k) (V (Proc.devRef .tc main_call0_v35) i) (V (Proc.devRef .tc main_call0_v39) i) := by
  obtain ⟨h0, h1, h2⟩ := hk
  after_reads_simp
  rw [h0, h2]
  simp -implicitDefEqProofs only [StableHlo.TRef.toBuf, StableHlo.TRef.ofBuf, cast_cast, cast_eq]
  pointwise
  simp (disch := decide) only [shli_unit, shrui_unit, xori_sum, groupOdd, mix, inject, rotl]

theorem group2_keys (hk : Keys V) : Keys (StableHlo.after g2 V) := by
  obtain ⟨h0, h1, h2⟩ := hk
  constructor <;> after_reads_simp <;> assumption
theorem group2_at (hk : Keys V) (k : BitVec 32 → BitVec 32 → BitVec 32) (i : S4x96x192x192x4.Idx) :
    k (StableHlo.after g2 V (Proc.devRef .tc main_call0_v103) i) (StableHlo.after g2 V (Proc.devRef .tc main_call0_v107) i)
    = groupEven (inject 0#32 42#32 3#32 k) (V (Proc.devRef .tc main_call0_v69) i) (V (Proc.devRef .tc main_call0_v73) i) := by
  obtain ⟨h0, h1, h2⟩ := hk
  after_reads_simp
  rw [h0, h1]
  simp -implicitDefEqProofs only [StableHlo.TRef.toBuf, StableHlo.TRef.ofBuf, cast_cast, cast_eq]
  pointwise
  simp (disch := decide) only [shli_unit, shrui_unit, xori_sum, groupEven, mix, inject, rotl]

theorem group3_keys (hk : Keys V) : Keys (StableHlo.after g3 V) := by
  obtain ⟨h0, h1, h2⟩ := hk
  constructor <;> after_reads_simp <;> assumption
theorem group3_at (hk : Keys V) (k : BitVec 32 → BitVec 32 → BitVec 32) (i : S4x96x192x192x4.Idx) :
    k (StableHlo.after g3 V (Proc.devRef .tc main_call0_v137) i) (StableHlo.after g3 V (Proc.devRef .tc main_call0_v141) i)
    = groupOdd (inject 42#32 466689008#32 4#32 k) (V (Proc.devRef .tc main_call0_v103) i) (V (Proc.devRef .tc main_call0_v107) i) := by
  obtain ⟨h0, h1, h2⟩ := hk
  after_reads_simp
  rw [h1, h2]
  simp -implicitDefEqProofs only [StableHlo.TRef.toBuf, StableHlo.TRef.ofBuf, cast_cast, cast_eq]
  pointwise
  simp (disch := decide) only [shli_unit, shrui_unit, xori_sum, groupOdd, mix, inject, rotl]

theorem group4_at (hk : Keys V) (k : BitVec 32 → BitVec 32 → BitVec 32) (i : S4x96x192x192x4.Idx) :
    k (StableHlo.after g4 V (Proc.devRef .tc main_v38_0) i) (StableHlo.after g4 V (Proc.devRef .tc main_v38_1) i)
    = groupEven (inject 466689008#32 0#32 5#32 k) (V (Proc.devRef .tc main_call0_v137) i) (V (Proc.devRef .tc main_call0_v141) i) := by
  obtain ⟨h0, h1, h2⟩ := hk
  after_reads_simp
  rw [h0, h2]
  simp -implicitDefEqProofs only [StableHlo.TRef.toBuf, StableHlo.TRef.ofBuf, cast_cast, cast_eq]
  pointwise
  simp (disch := decide) only [shli_unit, shrui_unit, xori_sum, groupEven, mix, inject, rotl]

/-- The two words written by all twenty rounds, taken against one another: the hash of the counter. -/
theorem hash_at (h0 : V (Proc.devRef .tc main_v12) = fun _ => 0#32) (h1 : V (Proc.devRef .tc main_v14) = fun _ => 42#32)
    (i : S4x96x192x192x4.Idx) (hz : V (Proc.devRef .tc main_v37) i = 0#32) :
    IntOp.xori (StableHlo.after hashOps V (Proc.devRef .tc main_v38_0) i) (StableHlo.after hashOps V (Proc.devRef .tc main_v38_1) i)
      = hash (IntOp.addi (V (Proc.devRef .tc main_v36) i) 42#32) := by
  have e : StableHlo.after (hashOps (F := F)) V
      = StableHlo.after g4 (StableHlo.after g3 (StableHlo.after g2 (StableHlo.after g1 (StableHlo.after g0 V)))) := by
    simp only [hashOps, StableHlo.after_append, List.append_assoc]
  have K0 := group0_keys h0 h1
  have K1 := group1_keys K0
  have K2 := group2_keys K1
  have K3 := group3_keys K2
  rw [e]
  refine (group4_at K3 IntOp.xori i).trans ((group3_at K2 _ i).trans ((group2_at K1 _ i).trans ((group1_at K0 _ i).trans
    ((group0_at h0 h1 _ i).trans ?_))))
  rw [hz]
  have ez : IntOp.addi 0#32 (IntOp.addi (V (Proc.devRef .tc main_v36) i) 42#32) = IntOp.addi (V (Proc.devRef .tc main_v36) i) 42#32 :=
    BitVec.zero_add _
  have ez' : IntOp.addi 0#32 0#32 = 0#32 := by decide
  rw [ez']
  unfold groupEven mix
  rw [ez]
  rfl

end Cert.Proof.Ref
end
-- ==== Proof.Argmax.lean ====
/-
  The reference's index of the largest: the fold over the four places under an output element ends at the first of the
  largest values.
-/
module

public import proofs.«01_k».proof.Proof.Gen.ReferenceIdeal
public import Idealize.ShloMosaic.PureOps.Ideal.Laws
public import Idealize.ShloMosaic.PureOps.Reduce
public import Idealize.ShloMosaic.Lib.Pointwise.Index

@[expose] public section

noncomputable section

namespace Cert.Proof.Ref

open Idealize.ShloMosaic
open Cert.ReferenceIdeal Cert.ReferenceIdeal.Gen

/-- One pair is at least as good as another: a larger value, or the same value and no larger an index. -/
def Beats (p q : EReal × BitVec 32) : Prop := q.1 < p.1 ∨ q.1 = p.1 ∧ p.2.toInt ≤ q.2.toInt

theorem Beats.refl (p : EReal × BitVec 32) : Beats p p := Or.inr ⟨rfl, le_rfl⟩
theorem Beats.trans {p q r : EReal × BitVec 32} (h : Beats p q) (h' : Beats q r) : Beats p r := by
  rcases h with h | ⟨h, h2⟩ <;> rcases h' with g | ⟨g, g2⟩
  · exact Or.inl (g.trans h)
  · exact Or.inl (g ▸ h)
  · exact Or.inl (h ▸ g)
  · exact Or.inr ⟨g.trans h, h2.trans g2⟩

/-- One step of the fold takes one of its two pairs, and that one beats both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  have hr : reducer_argmax_f32_i32 (F := Ideal) (a1, a2) (b1, b2)
      = (if b1 < a1 then a1 else b1, if b1 < a1 ∨ (a1 = b1 ∧ a2.toInt < b2.toInt) then a2 else b2) := by
    unfold reducer_argmax_f32_i32
    simp only [Ideal.cmpf_def, Ideal.cmp, IntOp.cmpi, IntOp.ori, IntOp.andi, Scalar.select, BitVec.slt]
    by_cases h1 : b1 < a1 <;> by_cases h2 : a1 = b1 <;> by_cases h3 : a2.toInt < b2.toInt <;> simp [h1, h2, h3]
  rw [hr]
  unfold Beats
  rcases lt_trichotomy b1 a1 with h | h | h
  · simp [h]
  · subst h
    by_cases h3 : a2.toInt < b2.toInt
    · simp [h3, h3.le]
    · simp [h3, not_lt.1 h3]
  · simp [h, h.le, h.ne, h.not_gt]

/-- The fold's result is one of its pairs, and beats them all. -/
theorem fold_spec (l : List (EReal × BitVec 32)) (p : EReal × BitVec 32) :
    (l.foldl (reducer_argmax_f32_i32 (F := Ideal)) p = p ∨ l.foldl (reducer_argmax_f32_i32 (F := Ideal)) p ∈ l)
      ∧ Beats (l.foldl (reducer_argmax_f32_i32 (F := Ideal)) p) p
      ∧ ∀ q ∈ l, Beats (l.foldl (reducer_argmax_f32_i32 (F := Ideal)) p) q := by
  induction l generalizing p with
  | nil => exact ⟨Or.inl rfl, Beats.refl p, fun _ h => absurd h (by simp)⟩
  | cons b l ih =>
    obtain ⟨h1, h2, h3⟩ := ih (reducer_argmax_f32_i32 (F := Ideal) p b)
    obtain ⟨g1, g2, g3⟩ := reducer_spec p b
    rw [List.foldl_cons]
    refine ⟨?_, h2.trans g2, fun q hq => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hq with rfl | hq
      · exact h2.trans g3
      · exact h3 q hq

/-- The four places under an output element. -/
def at5 (j : S4x96x192x192.Idx) (k : Fin 4) : S4x96x192x192x4.Idx :=
  ix5 (n0 := 4) (n1 := 96) (n2 := 192) (n3 := 192) (n4 := 4) (j 0) (j 1) (j 2) (j 3) k

theorem mem_fiber (x : FVec Ideal S4x96x192x192x4 .f32) (j : S4x96x192x192.Idx) (q : EReal × BitVec 32) :
    q ∈ Host.argReduceFiber x (iotaInDim S4x96x192x192x4 32 4) reducesTo_S4x96x192x192x4_S4x96x192x192_d4 j
      ↔ ∃ k : Fin 4, q = (x (at5 j k), BitVec.ofNat 32 k.val) := by
  have hd : ∀ i : S4x96x192x192x4.Idx, reducesTo_S4x96x192x192x4_S4x96x192x192_d4.drop i = j ↔ ∃ k, i = at5 j k := by
    intro i
    have e0 := reducesTo_S4x96x192x192x4_S4x96x192x192_d4.drop_apply_val_of_eq i 0 0
    have e1 := reducesTo_S4x96x192x192x4_S4x96x192x192_d4.drop_apply_val_of_eq i 1 1
    have e2 := reducesTo_S4x96x192x192x4_S4x96x192x192_d4.drop_apply_val_of_eq i 2 2
    have e3 := reducesTo_S4x96x192x192x4_S4x96x192x192_d4.drop_apply_val_of_eq i 3 3
    constructor
    · rintro rfl
      refine ⟨i 4, ?_⟩
      funext a
      apply Fin.ext
      match a with
      | 0 => exact e0.symm
      | 1 => exact e1.symm
      | 2 => exact e2.symm
      | 3 => exact e3.symm
      | 4 => rfl
    · rintro ⟨k, rfl⟩
      funext a
      apply Fin.ext
      match a with
      | 0 => exact e0
      | 1 => exact e1
      | 2 => exact e2
      | 3 => exact e3
  unfold Host.argReduceFiber
  simp only [List.mem_map, List.mem_filter, List.mem_finRange, true_and, decide_eq_true_eq]
  constructor
  · rintro ⟨n, hn, rfl⟩
    obtain ⟨k, hk⟩ := (hd _).1 hn
    exact ⟨k, by rw [hk]; rfl⟩
  · rintro ⟨k, rfl⟩
    refine ⟨S4x96x192x192x4.rowMajor (at5 j k), ?_, ?_⟩
    · rw [Equiv.symm_apply_apply]; exact (hd _).2 ⟨k, rfl⟩
    · rw [Equiv.symm_apply_apply]; rfl

/-- The index of the largest at an output element: of four values the first of the largest. -/
theorem argmax_at (x : FVec Ideal S4x96x192x192x4 .f32) (j : S4x96x192x192.Idx) : ∃ i : Fin 4,
    (Host.argReduce (reducer_argmax_f32_i32 (F := Ideal)) x (iotaInDim S4x96x192x192x4 32 4) (constant S_ .f32 0xFF800000#32) (constantI S_ 32 0#32)
      reducesTo_S4x96x192x192x4_S4x96x192x192_d4 h_S_ j).2 = BitVec.ofNat 32 i.val
      ∧ ∀ k, x (at5 j k) < x (at5 j i) ∨ x (at5 j k) = x (at5 j i) ∧ i ≤ k := by
  rw [Ideal.argReduce_eq_reduce2, Host.reduce2_eq_foldl_fiber]
  have hbot : (constant (F := Ideal) S_ .f32 0xFF800000#32) (Shape.Idx.first h_S_) = (⊥ : EReal) := by
    show Ideal.ofBits .f32 0xFF800000#32 = ⊥
    simp [Ideal.ofBits, Ideal.ieee]
  rw [hbot, show (constantI S_ 32 0#32) (Shape.Idx.first h_S_) = BitVec.ofNat 32 0 from rfl]
  obtain ⟨h1, h2, h3⟩ := fold_spec (Host.argReduceFiber x (iotaInDim S4x96x192x192x4 32 4) reducesTo_S4x96x192x192x4_S4x96x192x192_d4 j) (⊥, BitVec.ofNat 32 0)
  generalize List.foldl (reducer_argmax_f32_i32 (F := Ideal)) (⊥, BitVec.ofNat 32 0)
    (Host.argReduceFiber x (iotaInDim S4x96x192x192x4 32 4) reducesTo_S4x96x192x192x4_S4x96x192x192_d4 j) = r at h1 h2 h3
  have hk : ∀ k : Fin 4, Beats r (x (at5 j k), BitVec.ofNat 32 k.val) := fun k => h3 _ ((mem_fiber x j _).2 ⟨k, rfl⟩)
  have hi : ∀ k : Fin 4, (BitVec.ofNat 32 k.val).toInt = (k.val : Int) := by decide
  have : ∃ i : Fin 4, r = (x (at5 j i), BitVec.ofNat 32 i.val) := by
    rcases h1 with h1 | h1
    · refine ⟨0, ?_⟩
      have := hk 0
      rw [h1] at this ⊢
      rcases this with h | h
      · exact absurd h (by simp)
      · exact Prod.ext h.1.symm rfl
    · exact (mem_fiber x j _).1 h1
  obtain ⟨i, rfl⟩ := this
  refine ⟨i, rfl, fun k => ?_⟩
  rcases hk k with h | ⟨h, g⟩
  · exact Or.inl h
  · refine Or.inr ⟨h, ?_⟩
    simp only [hi] at g
    exact Fin.le_def.2 (by omega)

end Cert.Proof.Ref
end
-- ==== Proof.Sampling.lean ====
/-
  The sampling rule over the extended reals: a uniform sample lies strictly between 0 and 1, the logarithm of a score is
  the perturbed logarithm, and the index the kernels pick is that of the first largest.
-/
module

public import proofs.«01_k».proof.Proof.Hash
public import Idealize.ShloMosaic.PureOps.Ideal.Laws
public import Idealize.ShloMosaic.Lib.IdealHost

@[expose] public section

noncomputable section

namespace Cert.Proof

open Idealize.ShloMosaic

/-- A mantissa under the exponent of 1, as a number. -/
theorem mantissa_toNat (h : BitVec 32) : (IntOp.ori (IntOp.shrui .vector h 9#32) 1065353216#32).toNat = 127 * 2 ^ 23 + h.toNat / 512 := by
  have h1 : IntOp.shrui .vector h 9#32 = h >>> (9#32) := by
    unfold IntOp.shrui; exact if_pos (by decide)
  have hlt : h.toNat / 512 < 2 ^ 23 := by have := h.isLt; omega
  rw [h1]
  show ((h >>> (9#32)) ||| 1065353216#32).toNat = _
  rw [BitVec.toNat_or, BitVec.ushiftRight_eq', BitVec.toNat_ushiftRight, Nat.or_comm]
  have := Nat.shiftLeft_add_eq_or_of_lt hlt 127
  simp only [Nat.shiftLeft_eq, BitVec.toNat_ofNat, Nat.shiftRight_eq_div_pow] at this ⊢
  norm_num at this ⊢
  exact this.symm

/-- The float of a mantissa under the exponent of 1. -/
theorem mantissa_value (h : BitVec 32) : Ideal.ofBits .f32 (IntOp.ori (IntOp.shrui .vector h 9#32) 1065353216#32)
    = ((1 + (h.toNat / 512 : ℕ) * (2 : ℝ) ^ (-23 : Int) : ℝ) : EReal) := by
  have hw := mantissa_toNat h
  have hlt : h.toNat / 512 < 2 ^ 23 := by have := h.isLt; omega
  generalize IntOp.ori (IntOp.shrui .vector h 9#32) 1065353216#32 = w at hw
  generalize h.toNat / 512 = f at hw hlt
  have e1 : w.extractLsb' (8 + 23) 1 = 0#1 := by
    apply BitVec.eq_of_toNat_eq
    rw [BitVec.extractLsb'_toNat, hw, Nat.shiftRight_eq_div_pow]
    simp only [BitVec.toNat_ofNat]; omega
  have e2 : (w.extractLsb' 23 8).toNat = 127 := by
    rw [BitVec.extractLsb'_toNat, hw, Nat.shiftRight_eq_div_pow]; omega
  have e3 : (w.extractLsb' 0 23).toNat = f := by
    rw [BitVec.extractLsb'_toNat, hw, Nat.shiftRight_eq_div_pow]; omega
  show Ideal.ieee 8 23 w = _
  unfold Ideal.ieee
  simp only [e1, e2, e3]
  rw [if_neg (by decide), if_neg (by decide)]
  congr 1
  have : (2 : ℝ) ^ (-23 : Int) = 1 / 8388608 := by norm_num
  norm_num
  ring

/-- The smallest normal number. -/
theorem tiny_value : Ideal.ofBits .f32 0x00800000#32 = (((2 : ℝ) ^ (-126 : Int) : ℝ) : EReal) := by
  simp [Ideal.ofBits, Ideal.ieee, -EReal.coe_mul]
  norm_num

/-- A uniform sample is a real number strictly between 0 and 1. -/
theorem unif_real (c : BitVec 32) : ∃ u : ℝ, 0 < u ∧ u < 1 ∧ (unif c : Ideal .f32) = (u : EReal) := by
  have hlt : (hash c).toNat / 512 < 8388608 := by have := (hash c).isLt; omega
  refine ⟨max ((((hash c).toNat / 512 : ℕ) : ℝ) * (2 : ℝ) ^ (-23 : Int)) ((2 : ℝ) ^ (-126 : Int)), lt_max_of_lt_right (by positivity), max_lt ?_ (by norm_num), ?_⟩
  · have : (((hash c).toNat / 512 : ℕ) : ℝ) < 8388608 := by exact_mod_cast hlt
    have e : (2 : ℝ) ^ (-23 : Int) = 1 / 8388608 := by norm_num
    rw [e]
    linarith
  · show max (Ideal.ofBits .f32 (IntOp.ori (IntOp.shrui .vector (hash c) 9#32) 1065353216#32) - Ideal.ofBits .f32 0x3F800000#32) (Ideal.ofBits .f32 0x00800000#32) = _
    rw [mantissa_value, tiny_value, Ideal.ofBits_one_f32, EReal.coe_strictMono.monotone.map_max, show (1 : EReal) = ((1 : ℝ) : EReal) from rfl, ← EReal.coe_sub]
    congr 2
    ring

/-- The logarithm is strictly increasing from 0 on. -/
theorem log_strictMono : StrictMonoOn Ideal.log (Set.Ici 0) := by
  intro a ha b hb hab
  induction a with
  | bot => exact absurd ha (by simp)
  | top => exact absurd hab (by simp)
  | coe r =>
    have hr : 0 ≤ r := EReal.coe_nonneg.1 ha
    induction b with
    | bot => exact absurd hb (by simp)
    | top =>
      show (if r ≤ 0 then ⊥ else (Real.log r : EReal)) < ⊤
      split <;> simp [EReal.coe_lt_top]
    | coe s =>
      have hrs : r < s := by exact_mod_cast hab
      show (if r ≤ 0 then ⊥ else (Real.log r : EReal)) < (if s ≤ 0 then ⊥ else (Real.log s : EReal))
      rw [if_neg (by linarith : ¬ s ≤ 0)]
      split
      · exact EReal.bot_lt_coe _
      · rename_i h
        exact EReal.coe_lt_coe_iff.2 (Real.log_lt_log (by linarith) hrs)

/-- A score of an element that is not negative is not negative, and its logarithm is the element's with the sample's
    perturbation. -/
theorem score_log (w : Ideal .f32) (c : BitVec 32) (hw : 0 ≤ w) :
    0 ≤ score w c ∧ Ideal.log (score w c) = Ideal.log w + -Ideal.log (-Ideal.log (unif c : Ideal .f32)) := by
  obtain ⟨u, h0, h1, hu⟩ := unif_real c
  have hlog : Ideal.log (unif c : Ideal .f32) = (Real.log u : EReal) := by rw [hu]; exact if_neg (by linarith)
  have hneg : Real.log u < 0 := Real.log_neg h0 h1
  set L : ℝ := -Real.log u with hL
  have hLp : 0 < L := by linarith
  have hs : score w c = w * ((L⁻¹ : ℝ) : EReal) := by
    show Ideal.div w (Ideal.ofBits .f32 0x00000000#32 - Ideal.log (unif c : Ideal .f32)) = _
    rw [hlog, Ideal.ofBits_zero_f32, zero_sub, ← EReal.coe_neg]
    unfold Ideal.div
    rw [if_neg (by exact_mod_cast hLp.ne'), EReal.coe_inv]
  have hg : -Ideal.log (-Ideal.log (unif c : Ideal .f32)) = ((-Real.log L : ℝ) : EReal) := by
    rw [hlog, ← EReal.coe_neg, EReal.coe_neg (Real.log L)]
    congr 1
    exact if_neg (by linarith)
  have hi : (0 : ℝ) < L⁻¹ := inv_pos.2 hLp
  rw [hs, hg]
  induction w using EReal.rec with
  | bot => exact absurd hw (by simp)
  | top =>
    rw [EReal.top_mul_of_pos (by exact_mod_cast hi)]
    exact ⟨le_top, (EReal.top_add_coe _).symm⟩
  | coe r =>
    have hr : 0 ≤ r := by exact_mod_cast hw
    rw [← EReal.coe_mul]
    refine ⟨by exact_mod_cast mul_nonneg hr hi.le, ?_⟩
    show (if r * L⁻¹ ≤ 0 then ⊥ else (Real.log (r * L⁻¹) : EReal)) = (if r ≤ 0 then ⊥ else (Real.log r : EReal)) + _
    rcases hr.eq_or_lt with rfl | hr'
    · simp
    · rw [if_neg (by have := mul_pos hr' hi; linarith), if_neg (by linarith), Real.log_mul hr'.ne' hi.ne', Real.log_inv, EReal.coe_add]

/-- The index picked among four scores is the one that is larger than every earlier and no smaller than every later. -/
theorem pick_eq (s : Fin 4 → Ideal .f32) (i : Fin 4) (h : ∀ k, s k < s i ∨ s k = s i ∧ i ≤ k) :
    pick (s 0) (s 1) (s 2) (s 3) = ((i.val : ℝ) : EReal) := by
  have e3 : Ideal.ofBits .f32 0x40400000#32 = ((3 : ℝ) : EReal) := by simp [Ideal.ofBits, Ideal.ieee, -EReal.coe_mul]; norm_num
  have e2 : Ideal.ofBits .f32 0x40000000#32 = ((2 : ℝ) : EReal) := by simp [Ideal.ofBits, Ideal.ieee, -EReal.coe_mul]; norm_num
  have hsel : ∀ (p : Prop) [Decidable p] (x y : EReal), Scalar.select (BitVec.ofBool (decide p)) x y = if p then x else y := by
    intro p _ x y
    unfold Scalar.select
    by_cases hp : p <;> simp [hp]
  show Scalar.select (BitVec.ofBool (decide (max (max (s 0) (s 1)) (s 2) < s 3))) (Ideal.ofBits .f32 0x40400000#32)
    (Scalar.select (BitVec.ofBool (decide (max (s 0) (s 1) < s 2))) (Ideal.ofBits .f32 0x40000000#32)
      (Scalar.select (BitVec.ofBool (decide (s 0 < s 1))) (Ideal.ofBits .f32 0x3F800000#32) (Ideal.ofBits .f32 0x00000000#32))) = _
  rw [hsel, hsel, hsel, e3, e2, Ideal.ofBits_one_f32, Ideal.ofBits_zero_f32]
  have k0 := h 0; have k1 := h 1; have k2 := h 2; have k3 := h 3
  fin_cases i
  all_goals
    simp only [Fin.isValue, Fin.zero_eta, Fin.mk_one, Fin.reduceFinMk, lt_self_iff_false, false_or, le_refl, and_true, Fin.reduceLE] at k0 k1 k2 k3 ⊢
  · have a1 : s 1 ≤ s 0 := k1.elim le_of_lt fun h => h.le
    have a2 : s 2 ≤ s 0 := k2.elim le_of_lt fun h => h.le
    have a3 : s 3 ≤ s 0 := k3.elim le_of_lt fun h => h.le
    rw [if_neg (by simp [a3]), if_neg (by simp [a2]), if_neg (by simp [a1])]
    norm_num
  · have a0 : s 0 < s 1 := by simpa using k0
    have a2 : s 2 ≤ s 1 := k2.elim le_of_lt fun h => h.le
    have a3 : s 3 ≤ s 1 := k3.elim le_of_lt fun h => h.le
    rw [if_neg (by simp [a3]), if_neg (by simp [a2]), if_pos a0]
    norm_num
  · have a0 : s 0 < s 2 := by simpa using k0
    have a1 : s 1 < s 2 := by simpa using k1
    have a3 : s 3 ≤ s 2 := k3.elim le_of_lt fun h => h.le
    rw [if_neg (by simp [a3]), if_pos (max_lt a0 a1)]
    norm_num
  · have a0 : s 0 < s 3 := by simpa using k0
    have a1 : s 1 < s 3 := by simpa using k1
    have a2 : s 2 < s 3 := by simpa using k2
    rw [if_pos (max_lt (max_lt a0 a1) a2)]
    norm_num

end Cert.Proof
end
-- ==== Proof.RefValue.lean ====
/-
  The reference's result at an index, at exact reals.
-/
module

public import proofs.«01_k».proof.Proof.RefHash
public import proofs.«01_k».proof.Proof.ScValue
public import proofs.«01_k».proof.Proof.Argmax
public import proofs.«01_k».proof.Proof.Sampling
public import Idealize.ShloMosaic.Lib.ValueIdxRank6

@[expose] public section

noncomputable section

namespace Cert.Proof.Ref

open Idealize.ShloMosaic Idealize.SL Idealize.SL.Sem
open Cert.ReferenceIdeal Cert.ReferenceIdeal.Gen

section Pre
variable {F : FTy → Type} [FloatOps F] (V : Valuation τ sig (Elt F))

theorem pre_k0 : StableHlo.after preOps V (Proc.devRef .tc main_v12) = fun _ => 0#32 := by
  funext i
  after_reads_at
  after_reads_at
  rfl
theorem pre_k1 : StableHlo.after preOps V (Proc.devRef .tc main_v14) = fun _ => 42#32 := by
  funext i
  after_reads_at
  after_reads_at
  rfl

/-- The flat number of a draw. -/
def flat (i : S4x96x192x192x4.Idx) : Nat :=
  14155776 * (i 0).val + 147456 * (i 1).val + 768 * (i 2).val + 4 * (i 3).val + (i 4).val

theorem flat_lt (i : S4x96x192x192x4.Idx) : flat i < 56623104 := by
  have h0 : (i 0).val < 4 := (i 0).isLt
  have h1 : (i 1).val < 96 := (i 1).isLt
  have h2 : (i 2).val < 192 := (i 2).isLt
  have h3 : (i 3).val < 192 := (i 3).isLt
  have h4 : (i 4).val < 4 := (i 4).isLt
  unfold flat; omega

theorem wide_flat (i : S4x96x192x192x4.Idx) :
    IntOp.addi (IntOp.addi (IntOp.addi (IntOp.addi (IntOp.muli (14155776#64) (BitVec.ofNat 64 (i 0).val))
      (IntOp.muli (147456#64) (BitVec.ofNat 64 (i 1).val))) (IntOp.muli (768#64) (BitVec.ofNat 64 (i 2).val)))
      (IntOp.muli (4#64) (BitVec.ofNat 64 (i 3).val))) (IntOp.muli (1#64) (BitVec.ofNat 64 (i 4).val)) = BitVec.ofNat 64 (flat i) := by
  unfold flat IntOp.addi IntOp.muli
  simp only [← BitVec.ofNat_mul, ← BitVec.ofNat_add, Nat.one_mul]

theorem pre_low (i : S4x96x192x192x4.Idx) : StableHlo.after preOps V (Proc.devRef .tc main_v36) i = BitVec.ofNat 32 (flat i) := by
  after_reads_at
  rw [wide_flat]
  refine BitVec.eq_of_toNat_eq ?_
  have := flat_lt i
  simp only [BitVec.toNat_setWidth, BitVec.toNat_ofNat]
  omega
theorem pre_high (i : S4x96x192x192x4.Idx) : StableHlo.after preOps V (Proc.devRef .tc main_v37) i = 0#32 := by
  after_reads_at
  rw [wide_flat]
  refine BitVec.eq_of_toNat_eq ?_
  have := flat_lt i
  unfold IntOp.shrui
  rw [if_pos (by decide)]
  simp only [BitVec.toNat_setWidth, BitVec.toNat_ofNat, BitVec.ushiftRight_eq', BitVec.toNat_ushiftRight, Nat.shiftRight_eq_div_pow, Nat.reducePow, Nat.reduceMod]
  omega

/-- The input element of a draw: row `2 r + k / 2`, column `2 c + k % 2`. -/
def src (i : S4x96x192x192x4.Idx) : S4x96x384x384.Idx :=
  ix4 (i 0) (i 1) ⟨(i 2).val * 2 + (i 4).val / 2, by
    have h2 : (i 2).val < 192 := (i 2).isLt
    have h4 : (i 4).val < 4 := (i 4).isLt
    change _ < 384; omega⟩ ⟨(i 3).val * 2 + (i 4).val % 2, by
    have h3 : (i 3).val < 192 := (i 3).isLt
    change _ < 384; omega⟩

theorem pre_log (i : S4x96x192x192x4.Idx) : StableHlo.after preOps V (Proc.devRef .tc main_v3) i =
    FloatOps.hostUnary .log (V (Proc.devRef .tc main_arg0) (src i)) := by
  after_reads_at
  rfl

/-- What the reference takes the largest of: the logarithm of the element plus the Gumbel noise. -/
theorem mid_at (i : S4x96x192x192x4.Idx) : StableHlo.after midOps V (Proc.devRef .tc main_v53) i =
    FloatOps.addf (V (Proc.devRef .tc main_v3) i) (FloatOps.hostNegf (FloatOps.hostUnary .log (FloatOps.hostNegf (FloatOps.hostUnary .log
      (FloatOps.maximumf (FloatOps.subf (FloatOps.ofBits .f32 (IntOp.ori (IntOp.shrui .vector
        (IntOp.xori (V (Proc.devRef .tc main_v38_0) i) (V (Proc.devRef .tc main_v38_1) i)) 9#32) 1065353216#32))
        (Scalar.ofBits .f32 0x3F800000#32)) (Scalar.ofBits .f32 0x00800000#32)))))) := by
  after_reads_at
  rw [shrui_unit _ _ (by decide)]

theorem last_at (j : S4x96x192x192.Idx) : StableHlo.after (argOps (.of main_v53) main_call1 ++ lastOps) V (Proc.devRef .tc main_v55) j =
    FloatOps.sitofp .f32 (Host.argReduce reducer_argmax_f32_i32 (V (Proc.devRef .tc main_v53)) (iotaInDim S4x96x192x192x4 32 4)
      (constant S_ .f32 0xFF800000#32) (constantI S_ 32 0#32) reducesTo_S4x96x192x192x4_S4x96x192x192_d4 h_S_ j).2 := by
  after_reads_simp
  simp -implicitDefEqProofs only [StableHlo.TRef.toBuf, StableHlo.TRef.ofBuf, cast_cast, cast_eq]
  rfl

theorem hash_keeps : StableHlo.after hashOps V (Proc.devRef .tc main_v3) = V (Proc.devRef .tc main_v3) := by
  after_reads_simp

end Pre

variable (V : Valuation τ sig (Elt Ideal))

/-- What the reference takes the largest of is the logarithm of the kernels' score. -/
theorem noisy_at (hx : ∀ i, (0 : Ideal .f32) ≤ V (Proc.devRef .tc main_arg0) i) (i : S4x96x192x192x4.Idx) :
    StableHlo.after midOps (StableHlo.after hashOps (StableHlo.after preOps V)) (Proc.devRef .tc main_v53) i
      = Ideal.log (score (F := Ideal) (V (Proc.devRef .tc main_arg0) (src i)) (BitVec.ofNat 32 (flat i + 42))) := by
  have e : IntOp.addi (BitVec.ofNat 32 (flat i)) 42#32 = BitVec.ofNat 32 (flat i + 42) := (BitVec.ofNat_add _ _).symm
  rw [mid_at, hash_at (pre_k0 V) (pre_k1 V) i (pre_high V i), hash_keeps, pre_log, pre_low, e, (score_log _ _ (hx _)).2]
  rfl

theorem index_float (i : Fin 4) : (FloatOps.sitofp .f32 (BitVec.ofNat 32 i.val) : Ideal .f32) = ((i.val : ℝ) : EReal) := by
  have e : (BitVec.ofNat 32 i.val).toInt = (i.val : ℤ) := by fin_cases i <;> rfl
  change (((BitVec.ofNat 32 i.val).toInt : ℝ) : EReal) = _
  rw [e]; simp

/-- The reference's result at an output element. -/
theorem value_at (hx : ∀ i, (0 : Ideal .f32) ≤ V (Proc.devRef .tc main_arg0) i) (j : S4x96x192x192.Idx) :
    StableHlo.after refOps V (Proc.devRef .tc main_v55) j
      = cell (F := Ideal) (V (Proc.devRef .tc main_arg0) (src (at5 j 0))) (V (Proc.devRef .tc main_arg0) (src (at5 j 1)))
          (V (Proc.devRef .tc main_arg0) (src (at5 j 2))) (V (Proc.devRef .tc main_arg0) (src (at5 j 3)))
          (ctr ((j 0).val * 96 + (j 1).val) (j 2).val (j 3).val) := by
  have e : StableHlo.after (refOps (F := Ideal)) V = StableHlo.after (argOps (.of main_v53) main_call1 ++ lastOps)
      (StableHlo.after midOps (StableHlo.after hashOps (StableHlo.after preOps V))) := by
    rw [refOps, StableHlo.after_append, StableHlo.after_append, StableHlo.after_append]
  rw [e, last_at]
  obtain ⟨i, hi, hmax⟩ := argmax_at (StableHlo.after midOps (StableHlo.after hashOps (StableHlo.after preOps V)) (Proc.devRef .tc main_v53)) j
  rw [hi, index_float]
  simp only [noisy_at V hx] at hmax
  have hn : ∀ k : Fin 4, flat (at5 j k) + 42 = ctr ((j 0).val * 96 + (j 1).val) (j 2).val (j 3).val + k.val := by
    intro k
    change 14155776 * (j 0).val + 147456 * (j 1).val + 768 * (j 2).val + 4 * (j 3).val + k.val + 42 = _
    unfold ctr; omega
  simp only [hn] at hmax
  generalize ctr ((j 0).val * 96 + (j 1).val) (j 2).val (j 3).val = n at hmax ⊢
  let s : Fin 4 → Ideal .f32 := fun k => score (F := Ideal) (V (Proc.devRef .tc main_arg0) (src (at5 j k)))
    (BitVec.ofNat 32 (n + k.val))
  have hs : ∀ k, 0 ≤ s k := fun k => (score_log _ _ (hx _)).1
  refine (pick_eq s i fun k => ?_).symm
  rcases hmax k with h | ⟨h, hk⟩
  · exact .inl ((log_strictMono.lt_iff_lt (hs k) (hs i)).1 h)
  · exact .inr ⟨log_strictMono.injOn (hs k) (hs i) h, hk⟩

end Cert.Proof.Ref
end
-- ==== Proof.Algebra.lean ====
/-
  The value claim: on nonnegative inputs the kernel and the reference end with the same indices.
-/
module

public import proofs.«01_k».proof.Defs
public import proofs.«01_k».proof.Proof.Frames
public import proofs.«01_k».proof.Proof.KernelValue
public import proofs.«01_k».proof.Proof.RefValue
public import proofs.«01_k».proof.Proof.Precondition

@[expose] public section

noncomputable section

namespace Cert.Proof

open Idealize.ShloMosaic Idealize.SL Idealize.SL.Sem
open Idealize.ShloMosaic.TcCoe

section Any
variable {F : FTy → Type} [FloatOps F]

/-- The input, its two leading axes as one. -/
def fused (x : Vec F Cert.KernelIdeal.S4x96x384x384 .f32) : Vec F Cert.KernelIdeal.S384x384x384 .f32 := fun z =>
  x (ix4 (n0 := 4) (n1 := 96) (n2 := 384) (n3 := 384) ⟨(z 0).val / 96, by have h : (z 0).val < 384 := (z 0).isLt; omega⟩
    ⟨(z 0).val % 96, Nat.mod_lt _ (by decide)⟩ (z 1) (z 2))

theorem X_fused (m : (ℓ : Loc Cert.KernelIdeal.nD Cert.KernelIdeal.τ Cert.KernelIdeal.sig) → Buf (Elt F) ℓ) (d : Dev Cert.KernelIdeal.nD) :
    X m d = fused (m (d, Proc.devRef .tc Cert.KernelIdeal.main_arg0)) :=
  funext fun z => Tc.x_at (fun b => m (d, b)) z

/-- The four elements under an output element, in the order of the draws. -/
theorem fused_at (x : Vec F Cert.KernelIdeal.S4x96x384x384 .f32) (j : Cert.KernelIdeal.S4x96x192x192.Idx) (k : Fin 4) (a b : Nat)
    (ha : a = k.val / 2) (hb : b = k.val % 2) (h1 : 2 * (j 2).val + a < 384) (h2 : 2 * (j 3).val + b < 384) :
    fused x (ix3 (n0 := 384) (n1 := 384) (n2 := 384) ⟨(j 0).val * 96 + (j 1).val, chan_lt j⟩ ⟨2 * (j 2).val + a, h1⟩ ⟨2 * (j 3).val + b, h2⟩)
      = x (Ref.src (Ref.at5 j k)) := by
  have h : (j 1).val < 96 := (j 1).isLt
  unfold fused
  refine congrArg x (funext fun i => Fin.ext ?_)
  match i with
  | ⟨0, _⟩ => show ((j 0).val * 96 + (j 1).val) / 96 = (j 0).val; omega
  | ⟨1, _⟩ => show ((j 0).val * 96 + (j 1).val) % 96 = (j 1).val; omega
  | ⟨2, _⟩ => show 2 * (j 2).val + a = (j 2).val * 2 + k.val / 2; omega
  | ⟨3, _⟩ => show 2 * (j 3).val + b = (j 3).val * 2 + k.val % 2; omega

/-- An output element out of the input. -/
theorem cellOut_fused (x : Vec F Cert.KernelIdeal.S4x96x384x384 .f32) (j : Cert.KernelIdeal.S4x96x192x192.Idx) :
    Tc.cellOut (fused x) (ix3 (n0 := 384) (n1 := 192) (n2 := 192) ⟨(j 0).val * 96 + (j 1).val, chan_lt j⟩ (j 2) (j 3))
      = cell (F := F) (x (Ref.src (Ref.at5 j 0))) (x (Ref.src (Ref.at5 j 1))) (x (Ref.src (Ref.at5 j 2))) (x (Ref.src (Ref.at5 j 3)))
          (ctr ((j 0).val * 96 + (j 1).val) (j 2).val (j 3).val) := by
  have h2 : (j 2).val < 192 := (j 2).isLt
  have h3 : (j 3).val < 192 := (j 3).isLt
  rw [← fused_at x j 0 0 0 rfl rfl (by omega) (by omega), ← fused_at x j 1 0 1 rfl rfl (by omega) (by omega),
    ← fused_at x j 2 1 0 rfl rfl (by omega) (by omega), ← fused_at x j 3 1 1 rfl rfl (by omega) (by omega)]
  rfl

end Any

/-- The value claim. -/
theorem algebraic : Cert.algebraic_KernelIdeal_ReferenceIdeal_pre_x_nonneg := by
  intro m g m' g' hpre heq
  refine ⟨fun c => V4 m c (Proc.devRef .tc Cert.KernelIdeal.main_v25),
    (θ_run Cert.KernelIdeal.defs _ _).mono (fun _ h c => ⟨(h.1 c).2, (h.1 c).1⟩) (run_main (F := Ideal) m g),
    (θ_run Cert.ReferenceIdeal.defs _ _).mono (fun _ h c => ⟨(h.1 c).1.trans ?_, (h.1 c).2⟩) (run_reference m' g')⟩
  funext j
  have hx := nonneg_of_pre _ (hpre c)
  have hm : m' (c, Proc.devRef .tc Cert.ReferenceIdeal.main_arg0) = m (c, Proc.devRef .tc Cert.KernelIdeal.main_arg0) := heq c
  have hr := Ref.value_at (fun b => m' (c, b)) (fun i => by rw [hm]; exact hx i) j
  refine hr.trans (Eq.symm ((kernel_at m c j).trans ?_))
  rw [X_fused, cellOut_fused, hm]

end Cert.Proof
end
-- ==== Proof.lean ====
/-
  The claim: the frames of the kernel, of its idealization and of the reference, the (empty) list of rewrites, and the
  equality of the results over the exact reals on inputs with no negative element.
-/
module

public import proofs.«01_k».proof.Defs
public import proofs.«01_k».proof.Proof.Frames
public import proofs.«01_k».proof.Proof.Precondition
public import proofs.«01_k».proof.Proof.Algebra
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, preFacts,
    frame_kernel, frame_ideal, fun m g _ => frame_ideal m g trivial, frame_reference, fun m g _ => frame_reference m g trivial,
    trivial, algebraic⟩

end Cert.Proof

end
